-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x32x512 : Shape := ⟨3, ![32, 32, 512]⟩
abbrev S32x512 : Shape := ⟨2, ![32, 512]⟩
abbrev S32x2 : Shape := ⟨2, ![32, 2]⟩
abbrev S_ : Shape := ⟨0, ![]⟩
abbrev S1x1 : Shape := ⟨2, ![1, 1]⟩
abbrev S1x16x512 : Shape := ⟨3, ![1, 16, 512]⟩
abbrev S16x512 : Shape := ⟨2, ![16, 512]⟩
abbrev S1x32x512 : Shape := ⟨3, ![1, 32, 512]⟩
abbrev S32x16x512 : Shape := ⟨3, ![32, 16, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S32x32x512, .bf16⟩
  | .local _ .vmem, ⟨4, _⟩ => ⟨S32x512, .bf16⟩
  | .local _ .vmem, ⟨5, _⟩ => ⟨S1024x512, .bf16⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_132 : BitVec 32 := 0#32
  ![v2.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_137 : BitVec 32 := 0#32
  let c0_i32_138 : BitVec 32 := 0#32
  ![v2.toNat, 0, 0]
def k0_off3 (d0 : Dev nD) (c1_i32_128 : BitVec 32) (c0_i32_131 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_128
  let c32_i32_129 : BitVec 32 := 32#32
  let v135 : BitVec 32 := Scalar.remsi v134 c32_i32_129
  let c32_i32_130 : BitVec 32 := 32#32
  let v136 : BitVec 32 := Scalar.muli v135 c32_i32_130
  let v137 : BitVec 32 := Scalar.addi v136 c0_i32_131
  let c0_i32_139 : BitVec 32 := 0#32
  ![v137.toNat, 0]
def k0_dev32 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_135 : BitVec 32 := 1#32
  let v138 : BitVec 32 := Scalar.muli v135 c1_i32_135
  let v139 : BitVec 32 := Scalar.addi c0_i32_136 v138
  v139.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_140 : BitVec 32 := 2#32
  let v147 : BitVec 32 := Scalar.addi v2 c2_i32_140
  let c32_i32_141 : BitVec 32 := 32#32
  let v148 : BitVec 32 := Scalar.remsi v147 c32_i32_141
  let c1_i32_147 : BitVec 32 := 1#32
  let v151 : BitVec 32 := Scalar.muli v148 c1_i32_147
  let v152 : BitVec 32 := Scalar.addi c0_i32_148 v151
  v152.toNat
def k0_dev34 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_152 : BitVec 32 := 3#32
  let v160 : BitVec 32 := Scalar.addi v2 c3_i32_152
  let c32_i32_153 : BitVec 32 := 32#32
  let v161 : BitVec 32 := Scalar.remsi v160 c32_i32_153
  let c1_i32_159 : BitVec 32 := 1#32
  let v164 : BitVec 32 := Scalar.muli v161 c1_i32_159
  let v165 : BitVec 32 := Scalar.addi c0_i32_160 v164
  v165.toNat
def k0_dev35 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_164 : BitVec 32 := 4#32
  let v173 : BitVec 32 := Scalar.addi v2 c4_i32_164
  let c32_i32_165 : BitVec 32 := 32#32
  let v174 : BitVec 32 := Scalar.remsi v173 c32_i32_165
  let c1_i32_171 : BitVec 32 := 1#32
  let v177 : BitVec 32 := Scalar.muli v174 c1_i32_171
  let v178 : BitVec 32 := Scalar.addi c0_i32_172 v177
  v178.toNat
def k0_dev36 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_176 : BitVec 32 := 5#32
  let v186 : BitVec 32 := Scalar.addi v2 c5_i32_176
  let c32_i32_177 : BitVec 32 := 32#32
  let v187 : BitVec 32 := Scalar.remsi v186 c32_i32_177
  let c1_i32_183 : BitVec 32 := 1#32
  let v190 : BitVec 32 := Scalar.muli v187 c1_i32_183
  let v191 : BitVec 32 := Scalar.addi c0_i32_184 v190
  v191.toNat
def k0_dev37 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_188 : BitVec 32 := 6#32
  let v199 : BitVec 32 := Scalar.addi v2 c6_i32_188
  let c32_i32_189 : BitVec 32 := 32#32
  let v200 : BitVec 32 := Scalar.remsi v199 c32_i32_189
  let c1_i32_195 : BitVec 32 := 1#32
  let v203 : BitVec 32 := Scalar.muli v200 c1_i32_195
  let v204 : BitVec 32 := Scalar.addi c0_i32_196 v203
  v204.toNat
def k0_dev38 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_200 : BitVec 32 := 7#32
  let v212 : BitVec 32 := Scalar.addi v2 c7_i32_200
  let c32_i32_201 : BitVec 32 := 32#32
  let v213 : BitVec 32 := Scalar.remsi v212 c32_i32_201
  let c1_i32_207 : BitVec 32 := 1#32
  let v216 : BitVec 32 := Scalar.muli v213 c1_i32_207
  let v217 : BitVec 32 := Scalar.addi c0_i32_208 v216
  v217.toNat
def k0_dev39 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_212 : BitVec 32 := 8#32
  let v225 : BitVec 32 := Scalar.addi v2 c8_i32_212
  let c32_i32_213 : BitVec 32 := 32#32
  let v226 : BitVec 32 := Scalar.remsi v225 c32_i32_213
  let c1_i32_219 : BitVec 32 := 1#32
  let v229 : BitVec 32 := Scalar.muli v226 c1_i32_219
  let v230 : BitVec 32 := Scalar.addi c0_i32_220 v229
  v230.toNat
def k0_dev40 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_224 : BitVec 32 := 9#32
  let v238 : BitVec 32 := Scalar.addi v2 c9_i32_224
  let c32_i32_225 : BitVec 32 := 32#32
  let v239 : BitVec 32 := Scalar.remsi v238 c32_i32_225
  let c1_i32_231 : BitVec 32 := 1#32
  let v242 : BitVec 32 := Scalar.muli v239 c1_i32_231
  let v243 : BitVec 32 := Scalar.addi c0_i32_232 v242
  v243.toNat
def k0_dev41 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_236 : BitVec 32 := 10#32
  let v251 : BitVec 32 := Scalar.addi v2 c10_i32_236
  let c32_i32_237 : BitVec 32 := 32#32
  let v252 : BitVec 32 := Scalar.remsi v251 c32_i32_237
  let c1_i32_243 : BitVec 32 := 1#32
  let v255 : BitVec 32 := Scalar.muli v252 c1_i32_243
  let v256 : BitVec 32 := Scalar.addi c0_i32_244 v255
  v256.toNat
def k0_dev42 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_248 : BitVec 32 := 11#32
  let v264 : BitVec 32 := Scalar.addi v2 c11_i32_248
  let c32_i32_249 : BitVec 32 := 32#32
  let v265 : BitVec 32 := Scalar.remsi v264 c32_i32_249
  let c1_i32_255 : BitVec 32 := 1#32
  let v268 : BitVec 32 := Scalar.muli v265 c1_i32_255
  let v269 : BitVec 32 := Scalar.addi c0_i32_256 v268
  v269.toNat
def k0_dev43 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_260 : BitVec 32 := 12#32
  let v277 : BitVec 32 := Scalar.addi v2 c12_i32_260
  let c32_i32_261 : BitVec 32 := 32#32
  let v278 : BitVec 32 := Scalar.remsi v277 c32_i32_261
  let c1_i32_267 : BitVec 32 := 1#32
  let v281 : BitVec 32 := Scalar.muli v278 c1_i32_267
  let v282 : BitVec 32 := Scalar.addi c0_i32_268 v281
  v282.toNat
def k0_dev44 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_272 : BitVec 32 := 13#32
  let v290 : BitVec 32 := Scalar.addi v2 c13_i32_272
  let c32_i32_273 : BitVec 32 := 32#32
  let v291 : BitVec 32 := Scalar.remsi v290 c32_i32_273
  let c1_i32_279 : BitVec 32 := 1#32
  let v294 : BitVec 32 := Scalar.muli v291 c1_i32_279
  let v295 : BitVec 32 := Scalar.addi c0_i32_280 v294
  v295.toNat
def k0_dev45 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_284 : BitVec 32 := 14#32
  let v303 : BitVec 32 := Scalar.addi v2 c14_i32_284
  let c32_i32_285 : BitVec 32 := 32#32
  let v304 : BitVec 32 := Scalar.remsi v303 c32_i32_285
  let c1_i32_291 : BitVec 32 := 1#32
  let v307 : BitVec 32 := Scalar.muli v304 c1_i32_291
  let v308 : BitVec 32 := Scalar.addi c0_i32_292 v307
  v308.toNat
def k0_dev46 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_296 : BitVec 32 := 15#32
  let v316 : BitVec 32 := Scalar.addi v2 c15_i32_296
  let c32_i32_297 : BitVec 32 := 32#32
  let v317 : BitVec 32 := Scalar.remsi v316 c32_i32_297
  let c1_i32_303 : BitVec 32 := 1#32
  let v320 : BitVec 32 := Scalar.muli v317 c1_i32_303
  let v321 : BitVec 32 := Scalar.addi c0_i32_304 v320
  v321.toNat
def k0_dev47 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_308 : BitVec 32 := 16#32
  let v329 : BitVec 32 := Scalar.addi v2 c16_i32_308
  let c32_i32_309 : BitVec 32 := 32#32
  let v330 : BitVec 32 := Scalar.remsi v329 c32_i32_309
  let c1_i32_315 : BitVec 32 := 1#32
  let v333 : BitVec 32 := Scalar.muli v330 c1_i32_315
  let v334 : BitVec 32 := Scalar.addi c0_i32_316 v333
  v334.toNat
def k0_dev48 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_320 : BitVec 32 := 17#32
  let v342 : BitVec 32 := Scalar.addi v2 c17_i32_320
  let c32_i32_321 : BitVec 32 := 32#32
  let v343 : BitVec 32 := Scalar.remsi v342 c32_i32_321
  let c1_i32_327 : BitVec 32 := 1#32
  let v346 : BitVec 32 := Scalar.muli v343 c1_i32_327
  let v347 : BitVec 32 := Scalar.addi c0_i32_328 v346
  v347.toNat
def k0_dev49 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_332 : BitVec 32 := 18#32
  let v355 : BitVec 32 := Scalar.addi v2 c18_i32_332
  let c32_i32_333 : BitVec 32 := 32#32
  let v356 : BitVec 32 := Scalar.remsi v355 c32_i32_333
  let c1_i32_339 : BitVec 32 := 1#32
  let v359 : BitVec 32 := Scalar.muli v356 c1_i32_339
  let v360 : BitVec 32 := Scalar.addi c0_i32_340 v359
  v360.toNat
def k0_dev50 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_344 : BitVec 32 := 19#32
  let v368 : BitVec 32 := Scalar.addi v2 c19_i32_344
  let c32_i32_345 : BitVec 32 := 32#32
  let v369 : BitVec 32 := Scalar.remsi v368 c32_i32_345
  let c1_i32_351 : BitVec 32 := 1#32
  let v372 : BitVec 32 := Scalar.muli v369 c1_i32_351
  let v373 : BitVec 32 := Scalar.addi c0_i32_352 v372
  v373.toNat
def k0_dev51 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_356 : BitVec 32 := 20#32
  let v381 : BitVec 32 := Scalar.addi v2 c20_i32_356
  let c32_i32_357 : BitVec 32 := 32#32
  let v382 : BitVec 32 := Scalar.remsi v381 c32_i32_357
  let c1_i32_363 : BitVec 32 := 1#32
  let v385 : BitVec 32 := Scalar.muli v382 c1_i32_363
  let v386 : BitVec 32 := Scalar.addi c0_i32_364 v385
  v386.toNat
def k0_dev52 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_368 : BitVec 32 := 21#32
  let v394 : BitVec 32 := Scalar.addi v2 c21_i32_368
  let c32_i32_369 : BitVec 32 := 32#32
  let v395 : BitVec 32 := Scalar.remsi v394 c32_i32_369
  let c1_i32_375 : BitVec 32 := 1#32
  let v398 : BitVec 32 := Scalar.muli v395 c1_i32_375
  let v399 : BitVec 32 := Scalar.addi c0_i32_376 v398
  v399.toNat
def k0_dev53 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_380 : BitVec 32 := 22#32
  let v407 : BitVec 32 := Scalar.addi v2 c22_i32_380
  let c32_i32_381 : BitVec 32 := 32#32
  let v408 : BitVec 32 := Scalar.remsi v407 c32_i32_381
  let c1_i32_387 : BitVec 32 := 1#32
  let v411 : BitVec 32 := Scalar.muli v408 c1_i32_387
  let v412 : BitVec 32 := Scalar.addi c0_i32_388 v411
  v412.toNat
def k0_dev54 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_392 : BitVec 32 := 23#32
  let v420 : BitVec 32 := Scalar.addi v2 c23_i32_392
  let c32_i32_393 : BitVec 32 := 32#32
  let v421 : BitVec 32 := Scalar.remsi v420 c32_i32_393
  let c1_i32_399 : BitVec 32 := 1#32
  let v424 : BitVec 32 := Scalar.muli v421 c1_i32_399
  let v425 : BitVec 32 := Scalar.addi c0_i32_400 v424
  v425.toNat
def k0_dev55 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_404 : BitVec 32 := 24#32
  let v433 : BitVec 32 := Scalar.addi v2 c24_i32_404
  let c32_i32_405 : BitVec 32 := 32#32
  let v434 : BitVec 32 := Scalar.remsi v433 c32_i32_405
  let c1_i32_411 : BitVec 32 := 1#32
  let v437 : BitVec 32 := Scalar.muli v434 c1_i32_411
  let v438 : BitVec 32 := Scalar.addi c0_i32_412 v437
  v438.toNat
def k0_dev56 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_416 : BitVec 32 := 25#32
  let v446 : BitVec 32 := Scalar.addi v2 c25_i32_416
  let c32_i32_417 : BitVec 32 := 32#32
  let v447 : BitVec 32 := Scalar.remsi v446 c32_i32_417
  let c1_i32_423 : BitVec 32 := 1#32
  let v450 : BitVec 32 := Scalar.muli v447 c1_i32_423
  let v451 : BitVec 32 := Scalar.addi c0_i32_424 v450
  v451.toNat
def k0_dev57 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_428 : BitVec 32 := 26#32
  let v459 : BitVec 32 := Scalar.addi v2 c26_i32_428
  let c32_i32_429 : BitVec 32 := 32#32
  let v460 : BitVec 32 := Scalar.remsi v459 c32_i32_429
  let c1_i32_435 : BitVec 32 := 1#32
  let v463 : BitVec 32 := Scalar.muli v460 c1_i32_435
  let v464 : BitVec 32 := Scalar.addi c0_i32_436 v463
  v464.toNat
def k0_dev58 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_440 : BitVec 32 := 27#32
  let v472 : BitVec 32 := Scalar.addi v2 c27_i32_440
  let c32_i32_441 : BitVec 32 := 32#32
  let v473 : BitVec 32 := Scalar.remsi v472 c32_i32_441
  let c1_i32_447 : BitVec 32 := 1#32
  let v476 : BitVec 32 := Scalar.muli v473 c1_i32_447
  let v477 : BitVec 32 := Scalar.addi c0_i32_448 v476
  v477.toNat
def k0_dev59 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_452 : BitVec 32 := 28#32
  let v485 : BitVec 32 := Scalar.addi v2 c28_i32_452
  let c32_i32_453 : BitVec 32 := 32#32
  let v486 : BitVec 32 := Scalar.remsi v485 c32_i32_453
  let c1_i32_459 : BitVec 32 := 1#32
  let v489 : BitVec 32 := Scalar.muli v486 c1_i32_459
  let v490 : BitVec 32 := Scalar.addi c0_i32_460 v489
  v490.toNat
def k0_dev60 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_464 : BitVec 32 := 29#32
  let v498 : BitVec 32 := Scalar.addi v2 c29_i32_464
  let c32_i32_465 : BitVec 32 := 32#32
  let v499 : BitVec 32 := Scalar.remsi v498 c32_i32_465
  let c1_i32_471 : BitVec 32 := 1#32
  let v502 : BitVec 32 := Scalar.muli v499 c1_i32_471
  let v503 : BitVec 32 := Scalar.addi c0_i32_472 v502
  v503.toNat
def k0_dev61 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_476 : BitVec 32 := 30#32
  let v511 : BitVec 32 := Scalar.addi v2 c30_i32_476
  let c32_i32_477 : BitVec 32 := 32#32
  let v512 : BitVec 32 := Scalar.remsi v511 c32_i32_477
  let c1_i32_483 : BitVec 32 := 1#32
  let v515 : BitVec 32 := Scalar.muli v512 c1_i32_483
  let v516 : BitVec 32 := Scalar.addi c0_i32_484 v515
  v516.toNat
def k0_dev62 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_488 : BitVec 32 := 31#32
  let v524 : BitVec 32 := Scalar.addi v2 c31_i32_488
  let c32_i32_489 : BitVec 32 := 32#32
  let v525 : BitVec 32 := Scalar.remsi v524 c32_i32_489
  let c1_i32_495 : BitVec 32 := 1#32
  let v528 : BitVec 32 := Scalar.muli v525 c1_i32_495
  let v529 : BitVec 32 := Scalar.addi c0_i32_496 v528
  v529.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_504 : BitVec 32 := 1#32
  ![v2.toNat, 1]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_509 : BitVec 32 := 16#32
  let c0_i32_510 : BitVec 32 := 0#32
  ![v2.toNat, 16, 0]
def k0_dev63 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_500 : BitVec 32 := 1#32
  let v537 : BitVec 32 := Scalar.addi v2 c1_i32_500
  let c32_i32_501 : BitVec 32 := 32#32
  let v538 : BitVec 32 := Scalar.remsi v537 c32_i32_501
  let c1_i32_507 : BitVec 32 := 1#32
  let v541 : BitVec 32 := Scalar.muli v538 c1_i32_507
  let v542 : BitVec 32 := Scalar.addi c0_i32_508 v541
  v542.toNat
def k0_dev64 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_512 : BitVec 32 := 2#32
  let v550 : BitVec 32 := Scalar.addi v2 c2_i32_512
  let c32_i32_513 : BitVec 32 := 32#32
  let v551 : BitVec 32 := Scalar.remsi v550 c32_i32_513
  let c1_i32_519 : BitVec 32 := 1#32
  let v554 : BitVec 32 := Scalar.muli v551 c1_i32_519
  let v555 : BitVec 32 := Scalar.addi c0_i32_520 v554
  v555.toNat
def k0_dev65 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_524 : BitVec 32 := 3#32
  let v563 : BitVec 32 := Scalar.addi v2 c3_i32_524
  let c32_i32_525 : BitVec 32 := 32#32
  let v564 : BitVec 32 := Scalar.remsi v563 c32_i32_525
  let c1_i32_531 : BitVec 32 := 1#32
  let v567 : BitVec 32 := Scalar.muli v564 c1_i32_531
  let v568 : BitVec 32 := Scalar.addi c0_i32_532 v567
  v568.toNat
def k0_dev66 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_536 : BitVec 32 := 4#32
  let v576 : BitVec 32 := Scalar.addi v2 c4_i32_536
  let c32_i32_537 : BitVec 32 := 32#32
  let v577 : BitVec 32 := Scalar.remsi v576 c32_i32_537
  let c1_i32_543 : BitVec 32 := 1#32
  let v580 : BitVec 32 := Scalar.muli v577 c1_i32_543
  let v581 : BitVec 32 := Scalar.addi c0_i32_544 v580
  v581.toNat
def k0_dev67 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_548 : BitVec 32 := 5#32
  let v589 : BitVec 32 := Scalar.addi v2 c5_i32_548
  let c32_i32_549 : BitVec 32 := 32#32
  let v590 : BitVec 32 := Scalar.remsi v589 c32_i32_549
  let c1_i32_555 : BitVec 32 := 1#32
  let v593 : BitVec 32 := Scalar.muli v590 c1_i32_555
  let v594 : BitVec 32 := Scalar.addi c0_i32_556 v593
  v594.toNat
def k0_dev68 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_560 : BitVec 32 := 6#32
  let v602 : BitVec 32 := Scalar.addi v2 c6_i32_560
  let c32_i32_561 : BitVec 32 := 32#32
  let v603 : BitVec 32 := Scalar.remsi v602 c32_i32_561
  let c1_i32_567 : BitVec 32 := 1#32
  let v606 : BitVec 32 := Scalar.muli v603 c1_i32_567
  let v607 : BitVec 32 := Scalar.addi c0_i32_568 v606
  v607.toNat
def k0_dev69 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_572 : BitVec 32 := 7#32
  let v615 : BitVec 32 := Scalar.addi v2 c7_i32_572
  let c32_i32_573 : BitVec 32 := 32#32
  let v616 : BitVec 32 := Scalar.remsi v615 c32_i32_573
  let c1_i32_579 : BitVec 32 := 1#32
  let v619 : BitVec 32 := Scalar.muli v616 c1_i32_579
  let v620 : BitVec 32 := Scalar.addi c0_i32_580 v619
  v620.toNat
def k0_dev70 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_584 : BitVec 32 := 8#32
  let v628 : BitVec 32 := Scalar.addi v2 c8_i32_584
  let c32_i32_585 : BitVec 32 := 32#32
  let v629 : BitVec 32 := Scalar.remsi v628 c32_i32_585
  let c1_i32_591 : BitVec 32 := 1#32
  let v632 : BitVec 32 := Scalar.muli v629 c1_i32_591
  let v633 : BitVec 32 := Scalar.addi c0_i32_592 v632
  v633.toNat
def k0_dev71 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_596 : BitVec 32 := 9#32
  let v641 : BitVec 32 := Scalar.addi v2 c9_i32_596
  let c32_i32_597 : BitVec 32 := 32#32
  let v642 : BitVec 32 := Scalar.remsi v641 c32_i32_597
  let c1_i32_603 : BitVec 32 := 1#32
  let v645 : BitVec 32 := Scalar.muli v642 c1_i32_603
  let v646 : BitVec 32 := Scalar.addi c0_i32_604 v645
  v646.toNat
def k0_dev72 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_608 : BitVec 32 := 10#32
  let v654 : BitVec 32 := Scalar.addi v2 c10_i32_608
  let c32_i32_609 : BitVec 32 := 32#32
  let v655 : BitVec 32 := Scalar.remsi v654 c32_i32_609
  let c1_i32_615 : BitVec 32 := 1#32
  let v658 : BitVec 32 := Scalar.muli v655 c1_i32_615
  let v659 : BitVec 32 := Scalar.addi c0_i32_616 v658
  v659.toNat
def k0_dev73 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_620 : BitVec 32 := 11#32
  let v667 : BitVec 32 := Scalar.addi v2 c11_i32_620
  let c32_i32_621 : BitVec 32 := 32#32
  let v668 : BitVec 32 := Scalar.remsi v667 c32_i32_621
  let c1_i32_627 : BitVec 32 := 1#32
  let v671 : BitVec 32 := Scalar.muli v668 c1_i32_627
  let v672 : BitVec 32 := Scalar.addi c0_i32_628 v671
  v672.toNat
def k0_dev74 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_632 : BitVec 32 := 12#32
  let v680 : BitVec 32 := Scalar.addi v2 c12_i32_632
  let c32_i32_633 : BitVec 32 := 32#32
  let v681 : BitVec 32 := Scalar.remsi v680 c32_i32_633
  let c1_i32_639 : BitVec 32 := 1#32
  let v684 : BitVec 32 := Scalar.muli v681 c1_i32_639
  let v685 : BitVec 32 := Scalar.addi c0_i32_640 v684
  v685.toNat
def k0_dev75 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_644 : BitVec 32 := 13#32
  let v693 : BitVec 32 := Scalar.addi v2 c13_i32_644
  let c32_i32_645 : BitVec 32 := 32#32
  let v694 : BitVec 32 := Scalar.remsi v693 c32_i32_645
  let c1_i32_651 : BitVec 32 := 1#32
  let v697 : BitVec 32 := Scalar.muli v694 c1_i32_651
  let v698 : BitVec 32 := Scalar.addi c0_i32_652 v697
  v698.toNat
def k0_dev76 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_656 : BitVec 32 := 14#32
  let v706 : BitVec 32 := Scalar.addi v2 c14_i32_656
  let c32_i32_657 : BitVec 32 := 32#32
  let v707 : BitVec 32 := Scalar.remsi v706 c32_i32_657
  let c1_i32_663 : BitVec 32 := 1#32
  let v710 : BitVec 32 := Scalar.muli v707 c1_i32_663
  let v711 : BitVec 32 := Scalar.addi c0_i32_664 v710
  v711.toNat
def k0_dev77 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_668 : BitVec 32 := 15#32
  let v719 : BitVec 32 := Scalar.addi v2 c15_i32_668
  let c32_i32_669 : BitVec 32 := 32#32
  let v720 : BitVec 32 := Scalar.remsi v719 c32_i32_669
  let c1_i32_675 : BitVec 32 := 1#32
  let v723 : BitVec 32 := Scalar.muli v720 c1_i32_675
  let v724 : BitVec 32 := Scalar.addi c0_i32_676 v723
  v724.toNat
def k0_dev78 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_680 : BitVec 32 := 16#32
  let v732 : BitVec 32 := Scalar.addi v2 c16_i32_680
  let c32_i32_681 : BitVec 32 := 32#32
  let v733 : BitVec 32 := Scalar.remsi v732 c32_i32_681
  let c1_i32_687 : BitVec 32 := 1#32
  let v736 : BitVec 32 := Scalar.muli v733 c1_i32_687
  let v737 : BitVec 32 := Scalar.addi c0_i32_688 v736
  v737.toNat
def k0_dev79 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_692 : BitVec 32 := 17#32
  let v745 : BitVec 32 := Scalar.addi v2 c17_i32_692
  let c32_i32_693 : BitVec 32 := 32#32
  let v746 : BitVec 32 := Scalar.remsi v745 c32_i32_693
  let c1_i32_699 : BitVec 32 := 1#32
  let v749 : BitVec 32 := Scalar.muli v746 c1_i32_699
  let v750 : BitVec 32 := Scalar.addi c0_i32_700 v749
  v750.toNat
def k0_dev80 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_704 : BitVec 32 := 18#32
  let v758 : BitVec 32 := Scalar.addi v2 c18_i32_704
  let c32_i32_705 : BitVec 32 := 32#32
  let v759 : BitVec 32 := Scalar.remsi v758 c32_i32_705
  let c1_i32_711 : BitVec 32 := 1#32
  let v762 : BitVec 32 := Scalar.muli v759 c1_i32_711
  let v763 : BitVec 32 := Scalar.addi c0_i32_712 v762
  v763.toNat
def k0_dev81 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_716 : BitVec 32 := 19#32
  let v771 : BitVec 32 := Scalar.addi v2 c19_i32_716
  let c32_i32_717 : BitVec 32 := 32#32
  let v772 : BitVec 32 := Scalar.remsi v771 c32_i32_717
  let c1_i32_723 : BitVec 32 := 1#32
  let v775 : BitVec 32 := Scalar.muli v772 c1_i32_723
  let v776 : BitVec 32 := Scalar.addi c0_i32_724 v775
  v776.toNat
def k0_dev82 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_728 : BitVec 32 := 20#32
  let v784 : BitVec 32 := Scalar.addi v2 c20_i32_728
  let c32_i32_729 : BitVec 32 := 32#32
  let v785 : BitVec 32 := Scalar.remsi v784 c32_i32_729
  let c1_i32_735 : BitVec 32 := 1#32
  let v788 : BitVec 32 := Scalar.muli v785 c1_i32_735
  let v789 : BitVec 32 := Scalar.addi c0_i32_736 v788
  v789.toNat
def k0_dev83 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_740 : BitVec 32 := 21#32
  let v797 : BitVec 32 := Scalar.addi v2 c21_i32_740
  let c32_i32_741 : BitVec 32 := 32#32
  let v798 : BitVec 32 := Scalar.remsi v797 c32_i32_741
  let c1_i32_747 : BitVec 32 := 1#32
  let v801 : BitVec 32 := Scalar.muli v798 c1_i32_747
  let v802 : BitVec 32 := Scalar.addi c0_i32_748 v801
  v802.toNat
def k0_dev84 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_752 : BitVec 32 := 22#32
  let v810 : BitVec 32 := Scalar.addi v2 c22_i32_752
  let c32_i32_753 : BitVec 32 := 32#32
  let v811 : BitVec 32 := Scalar.remsi v810 c32_i32_753
  let c1_i32_759 : BitVec 32 := 1#32
  let v814 : BitVec 32 := Scalar.muli v811 c1_i32_759
  let v815 : BitVec 32 := Scalar.addi c0_i32_760 v814
  v815.toNat
def k0_dev85 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_764 : BitVec 32 := 23#32
  let v823 : BitVec 32 := Scalar.addi v2 c23_i32_764
  let c32_i32_765 : BitVec 32 := 32#32
  let v824 : BitVec 32 := Scalar.remsi v823 c32_i32_765
  let c1_i32_771 : BitVec 32 := 1#32
  let v827 : BitVec 32 := Scalar.muli v824 c1_i32_771
  let v828 : BitVec 32 := Scalar.addi c0_i32_772 v827
  v828.toNat
def k0_dev86 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_776 : BitVec 32 := 24#32
  let v836 : BitVec 32 := Scalar.addi v2 c24_i32_776
  let c32_i32_777 : BitVec 32 := 32#32
  let v837 : BitVec 32 := Scalar.remsi v836 c32_i32_777
  let c1_i32_783 : BitVec 32 := 1#32
  let v840 : BitVec 32 := Scalar.muli v837 c1_i32_783
  let v841 : BitVec 32 := Scalar.addi c0_i32_784 v840
  v841.toNat
def k0_dev87 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_788 : BitVec 32 := 25#32
  let v849 : BitVec 32 := Scalar.addi v2 c25_i32_788
  let c32_i32_789 : BitVec 32 := 32#32
  let v850 : BitVec 32 := Scalar.remsi v849 c32_i32_789
  let c1_i32_795 : BitVec 32 := 1#32
  let v853 : BitVec 32 := Scalar.muli v850 c1_i32_795
  let v854 : BitVec 32 := Scalar.addi c0_i32_796 v853
  v854.toNat
def k0_dev88 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_800 : BitVec 32 := 26#32
  let v862 : BitVec 32 := Scalar.addi v2 c26_i32_800
  let c32_i32_801 : BitVec 32 := 32#32
  let v863 : BitVec 32 := Scalar.remsi v862 c32_i32_801
  let c1_i32_807 : BitVec 32 := 1#32
  let v866 : BitVec 32 := Scalar.muli v863 c1_i32_807
  let v867 : BitVec 32 := Scalar.addi c0_i32_808 v866
  v867.toNat
def k0_dev89 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_812 : BitVec 32 := 27#32
  let v875 : BitVec 32 := Scalar.addi v2 c27_i32_812
  let c32_i32_813 : BitVec 32 := 32#32
  let v876 : BitVec 32 := Scalar.remsi v875 c32_i32_813
  let c1_i32_819 : BitVec 32 := 1#32
  let v879 : BitVec 32 := Scalar.muli v876 c1_i32_819
  let v880 : BitVec 32 := Scalar.addi c0_i32_820 v879
  v880.toNat
def k0_dev90 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_824 : BitVec 32 := 28#32
  let v888 : BitVec 32 := Scalar.addi v2 c28_i32_824
  let c32_i32_825 : BitVec 32 := 32#32
  let v889 : BitVec 32 := Scalar.remsi v888 c32_i32_825
  let c1_i32_831 : BitVec 32 := 1#32
  let v892 : BitVec 32 := Scalar.muli v889 c1_i32_831
  let v893 : BitVec 32 := Scalar.addi c0_i32_832 v892
  v893.toNat
def k0_dev91 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_836 : BitVec 32 := 29#32
  let v901 : BitVec 32 := Scalar.addi v2 c29_i32_836
  let c32_i32_837 : BitVec 32 := 32#32
  let v902 : BitVec 32 := Scalar.remsi v901 c32_i32_837
  let c1_i32_843 : BitVec 32 := 1#32
  let v905 : BitVec 32 := Scalar.muli v902 c1_i32_843
  let v906 : BitVec 32 := Scalar.addi c0_i32_844 v905
  v906.toNat
def k0_dev92 (d0 : Dev nD) : Nat :=
  let c0_i32_856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_848 : BitVec 32 := 30#32
  let v914 : BitVec 32 := Scalar.addi v2 c30_i32_848
  let c32_i32_849 : BitVec 32 := 32#32
  let v915 : BitVec 32 := Scalar.remsi v914 c32_i32_849
  let c1_i32_855 : BitVec 32 := 1#32
  let v918 : BitVec 32 := Scalar.muli v915 c1_i32_855
  let v919 : BitVec 32 := Scalar.addi c0_i32_856 v918
  v919.toNat
def k0_dev93 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_860 : BitVec 32 := 31#32
  let v927 : BitVec 32 := Scalar.addi v2 c31_i32_860
  let c32_i32_861 : BitVec 32 := 32#32
  let v928 : BitVec 32 := Scalar.remsi v927 c32_i32_861
  let c1_i32_867 : BitVec 32 := 1#32
  let v931 : BitVec 32 := Scalar.muli v928 c1_i32_867
  let v932 : BitVec 32 := Scalar.addi c0_i32_868 v931
  v932.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_872 : BitVec 32 := 32#32
  let v940 : BitVec 32 := Scalar.muli v2 c32_i32_872
  let v941 : Index := Scalar.indexCast v940
  let c0_873 : Index := 0#32
  ![v941.toNat, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v943 : Index := Scalar.indexCast v2
  let c0_874 : Index := 0#32
  let c0_875 : Index := 0#32
  ![v943.toNat, 0, 0]
def k0_off8 (d0 : Dev nD) (c1_i32_876 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v947 : BitVec 32 := Scalar.addi v2 c1_i32_876
  let c32_i32_877 : BitVec 32 := 32#32
  let v948 : BitVec 32 := Scalar.remsi v947 c32_i32_877
  let c0_i32_878 : BitVec 32 := 0#32
  ![v948.toNat, 0]
def k0_off9 (d0 : Dev nD) (c1_i32_876 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v947 : BitVec 32 := Scalar.addi v2 c1_i32_876
  let c32_i32_877 : BitVec 32 := 32#32
  let v948 : BitVec 32 := Scalar.remsi v947 c32_i32_877
  let c0_i32_883 : BitVec 32 := 0#32
  let c0_i32_884 : BitVec 32 := 0#32
  ![v948.toNat, 0, 0]
def k0_off10 (d0 : Dev nD) (c0_i32_1221 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1220 : BitVec 32 := 32#32
  let v1260 : BitVec 32 := Scalar.muli v2 c32_i32_1220
  let v1261 : BitVec 32 := Scalar.addi v1260 c0_i32_1221
  let v1262 : Index := Scalar.indexCast v1261
  let c0_1222 : Index := 0#32
  ![v1262.toNat, 0]
def k0_off11 (d0 : Dev nD) (c0_i32_1228 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1227 : BitVec 32 := 32#32
  let v1270 : BitVec 32 := Scalar.muli v2 c32_i32_1227
  let v1271 : BitVec 32 := Scalar.addi v1270 c0_i32_1228
  let c0_i32_1234 : BitVec 32 := 0#32
  ![v1271.toNat, 0]
def k0_dev94 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1225 : BitVec 32 := 1#32
  let v1268 : BitVec 32 := Scalar.addi v2 c1_i32_1225
  let c32_i32_1226 : BitVec 32 := 32#32
  let v1269 : BitVec 32 := Scalar.remsi v1268 c32_i32_1226
  let c1_i32_1232 : BitVec 32 := 1#32
  let v1272 : BitVec 32 := Scalar.muli v1269 c1_i32_1232
  let v1273 : BitVec 32 := Scalar.addi c0_i32_1233 v1272
  v1273.toNat
def k0_dev95 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1237 : BitVec 32 := 2#32
  let v1280 : BitVec 32 := Scalar.addi v2 c2_i32_1237
  let c32_i32_1238 : BitVec 32 := 32#32
  let v1281 : BitVec 32 := Scalar.remsi v1280 c32_i32_1238
  let c1_i32_1244 : BitVec 32 := 1#32
  let v1284 : BitVec 32 := Scalar.muli v1281 c1_i32_1244
  let v1285 : BitVec 32 := Scalar.addi c0_i32_1245 v1284
  v1285.toNat
def k0_dev96 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1249 : BitVec 32 := 3#32
  let v1292 : BitVec 32 := Scalar.addi v2 c3_i32_1249
  let c32_i32_1250 : BitVec 32 := 32#32
  let v1293 : BitVec 32 := Scalar.remsi v1292 c32_i32_1250
  let c1_i32_1256 : BitVec 32 := 1#32
  let v1296 : BitVec 32 := Scalar.muli v1293 c1_i32_1256
  let v1297 : BitVec 32 := Scalar.addi c0_i32_1257 v1296
  v1297.toNat
def k0_dev97 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1261 : BitVec 32 := 4#32
  let v1304 : BitVec 32 := Scalar.addi v2 c4_i32_1261
  let c32_i32_1262 : BitVec 32 := 32#32
  let v1305 : BitVec 32 := Scalar.remsi v1304 c32_i32_1262
  let c1_i32_1268 : BitVec 32 := 1#32
  let v1308 : BitVec 32 := Scalar.muli v1305 c1_i32_1268
  let v1309 : BitVec 32 := Scalar.addi c0_i32_1269 v1308
  v1309.toNat
def k0_dev98 (d0 : Dev nD) : Nat :=
  let c0_i32_1281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1273 : BitVec 32 := 5#32
  let v1316 : BitVec 32 := Scalar.addi v2 c5_i32_1273
  let c32_i32_1274 : BitVec 32 := 32#32
  let v1317 : BitVec 32 := Scalar.remsi v1316 c32_i32_1274
  let c1_i32_1280 : BitVec 32 := 1#32
  let v1320 : BitVec 32 := Scalar.muli v1317 c1_i32_1280
  let v1321 : BitVec 32 := Scalar.addi c0_i32_1281 v1320
  v1321.toNat
def k0_dev99 (d0 : Dev nD) : Nat :=
  let c0_i32_1293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1285 : BitVec 32 := 6#32
  let v1328 : BitVec 32 := Scalar.addi v2 c6_i32_1285
  let c32_i32_1286 : BitVec 32 := 32#32
  let v1329 : BitVec 32 := Scalar.remsi v1328 c32_i32_1286
  let c1_i32_1292 : BitVec 32 := 1#32
  let v1332 : BitVec 32 := Scalar.muli v1329 c1_i32_1292
  let v1333 : BitVec 32 := Scalar.addi c0_i32_1293 v1332
  v1333.toNat
def k0_dev100 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1297 : BitVec 32 := 7#32
  let v1340 : BitVec 32 := Scalar.addi v2 c7_i32_1297
  let c32_i32_1298 : BitVec 32 := 32#32
  let v1341 : BitVec 32 := Scalar.remsi v1340 c32_i32_1298
  let c1_i32_1304 : BitVec 32 := 1#32
  let v1344 : BitVec 32 := Scalar.muli v1341 c1_i32_1304
  let v1345 : BitVec 32 := Scalar.addi c0_i32_1305 v1344
  v1345.toNat
def k0_dev101 (d0 : Dev nD) : Nat :=
  let c0_i32_1317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1309 : BitVec 32 := 8#32
  let v1352 : BitVec 32 := Scalar.addi v2 c8_i32_1309
  let c32_i32_1310 : BitVec 32 := 32#32
  let v1353 : BitVec 32 := Scalar.remsi v1352 c32_i32_1310
  let c1_i32_1316 : BitVec 32 := 1#32
  let v1356 : BitVec 32 := Scalar.muli v1353 c1_i32_1316
  let v1357 : BitVec 32 := Scalar.addi c0_i32_1317 v1356
  v1357.toNat
def k0_dev102 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1321 : BitVec 32 := 9#32
  let v1364 : BitVec 32 := Scalar.addi v2 c9_i32_1321
  let c32_i32_1322 : BitVec 32 := 32#32
  let v1365 : BitVec 32 := Scalar.remsi v1364 c32_i32_1322
  let c1_i32_1328 : BitVec 32 := 1#32
  let v1368 : BitVec 32 := Scalar.muli v1365 c1_i32_1328
  let v1369 : BitVec 32 := Scalar.addi c0_i32_1329 v1368
  v1369.toNat
def k0_dev103 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1333 : BitVec 32 := 10#32
  let v1376 : BitVec 32 := Scalar.addi v2 c10_i32_1333
  let c32_i32_1334 : BitVec 32 := 32#32
  let v1377 : BitVec 32 := Scalar.remsi v1376 c32_i32_1334
  let c1_i32_1340 : BitVec 32 := 1#32
  let v1380 : BitVec 32 := Scalar.muli v1377 c1_i32_1340
  let v1381 : BitVec 32 := Scalar.addi c0_i32_1341 v1380
  v1381.toNat
def k0_dev104 (d0 : Dev nD) : Nat :=
  let c0_i32_1353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1345 : BitVec 32 := 11#32
  let v1388 : BitVec 32 := Scalar.addi v2 c11_i32_1345
  let c32_i32_1346 : BitVec 32 := 32#32
  let v1389 : BitVec 32 := Scalar.remsi v1388 c32_i32_1346
  let c1_i32_1352 : BitVec 32 := 1#32
  let v1392 : BitVec 32 := Scalar.muli v1389 c1_i32_1352
  let v1393 : BitVec 32 := Scalar.addi c0_i32_1353 v1392
  v1393.toNat
def k0_dev105 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1357 : BitVec 32 := 12#32
  let v1400 : BitVec 32 := Scalar.addi v2 c12_i32_1357
  let c32_i32_1358 : BitVec 32 := 32#32
  let v1401 : BitVec 32 := Scalar.remsi v1400 c32_i32_1358
  let c1_i32_1364 : BitVec 32 := 1#32
  let v1404 : BitVec 32 := Scalar.muli v1401 c1_i32_1364
  let v1405 : BitVec 32 := Scalar.addi c0_i32_1365 v1404
  v1405.toNat
def k0_dev106 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1369 : BitVec 32 := 13#32
  let v1412 : BitVec 32 := Scalar.addi v2 c13_i32_1369
  let c32_i32_1370 : BitVec 32 := 32#32
  let v1413 : BitVec 32 := Scalar.remsi v1412 c32_i32_1370
  let c1_i32_1376 : BitVec 32 := 1#32
  let v1416 : BitVec 32 := Scalar.muli v1413 c1_i32_1376
  let v1417 : BitVec 32 := Scalar.addi c0_i32_1377 v1416
  v1417.toNat
def k0_dev107 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1381 : BitVec 32 := 14#32
  let v1424 : BitVec 32 := Scalar.addi v2 c14_i32_1381
  let c32_i32_1382 : BitVec 32 := 32#32
  let v1425 : BitVec 32 := Scalar.remsi v1424 c32_i32_1382
  let c1_i32_1388 : BitVec 32 := 1#32
  let v1428 : BitVec 32 := Scalar.muli v1425 c1_i32_1388
  let v1429 : BitVec 32 := Scalar.addi c0_i32_1389 v1428
  v1429.toNat
def k0_dev108 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1393 : BitVec 32 := 15#32
  let v1436 : BitVec 32 := Scalar.addi v2 c15_i32_1393
  let c32_i32_1394 : BitVec 32 := 32#32
  let v1437 : BitVec 32 := Scalar.remsi v1436 c32_i32_1394
  let c1_i32_1400 : BitVec 32 := 1#32
  let v1440 : BitVec 32 := Scalar.muli v1437 c1_i32_1400
  let v1441 : BitVec 32 := Scalar.addi c0_i32_1401 v1440
  v1441.toNat
def k0_dev109 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1405 : BitVec 32 := 16#32
  let v1448 : BitVec 32 := Scalar.addi v2 c16_i32_1405
  let c32_i32_1406 : BitVec 32 := 32#32
  let v1449 : BitVec 32 := Scalar.remsi v1448 c32_i32_1406
  let c1_i32_1412 : BitVec 32 := 1#32
  let v1452 : BitVec 32 := Scalar.muli v1449 c1_i32_1412
  let v1453 : BitVec 32 := Scalar.addi c0_i32_1413 v1452
  v1453.toNat
def k0_dev110 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1417 : BitVec 32 := 17#32
  let v1460 : BitVec 32 := Scalar.addi v2 c17_i32_1417
  let c32_i32_1418 : BitVec 32 := 32#32
  let v1461 : BitVec 32 := Scalar.remsi v1460 c32_i32_1418
  let c1_i32_1424 : BitVec 32 := 1#32
  let v1464 : BitVec 32 := Scalar.muli v1461 c1_i32_1424
  let v1465 : BitVec 32 := Scalar.addi c0_i32_1425 v1464
  v1465.toNat
def k0_dev111 (d0 : Dev nD) : Nat :=
  let c0_i32_1437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1429 : BitVec 32 := 18#32
  let v1472 : BitVec 32 := Scalar.addi v2 c18_i32_1429
  let c32_i32_1430 : BitVec 32 := 32#32
  let v1473 : BitVec 32 := Scalar.remsi v1472 c32_i32_1430
  let c1_i32_1436 : BitVec 32 := 1#32
  let v1476 : BitVec 32 := Scalar.muli v1473 c1_i32_1436
  let v1477 : BitVec 32 := Scalar.addi c0_i32_1437 v1476
  v1477.toNat
def k0_dev112 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1441 : BitVec 32 := 19#32
  let v1484 : BitVec 32 := Scalar.addi v2 c19_i32_1441
  let c32_i32_1442 : BitVec 32 := 32#32
  let v1485 : BitVec 32 := Scalar.remsi v1484 c32_i32_1442
  let c1_i32_1448 : BitVec 32 := 1#32
  let v1488 : BitVec 32 := Scalar.muli v1485 c1_i32_1448
  let v1489 : BitVec 32 := Scalar.addi c0_i32_1449 v1488
  v1489.toNat
def k0_dev113 (d0 : Dev nD) : Nat :=
  let c0_i32_1461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1453 : BitVec 32 := 20#32
  let v1496 : BitVec 32 := Scalar.addi v2 c20_i32_1453
  let c32_i32_1454 : BitVec 32 := 32#32
  let v1497 : BitVec 32 := Scalar.remsi v1496 c32_i32_1454
  let c1_i32_1460 : BitVec 32 := 1#32
  let v1500 : BitVec 32 := Scalar.muli v1497 c1_i32_1460
  let v1501 : BitVec 32 := Scalar.addi c0_i32_1461 v1500
  v1501.toNat
def k0_dev114 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1465 : BitVec 32 := 21#32
  let v1508 : BitVec 32 := Scalar.addi v2 c21_i32_1465
  let c32_i32_1466 : BitVec 32 := 32#32
  let v1509 : BitVec 32 := Scalar.remsi v1508 c32_i32_1466
  let c1_i32_1472 : BitVec 32 := 1#32
  let v1512 : BitVec 32 := Scalar.muli v1509 c1_i32_1472
  let v1513 : BitVec 32 := Scalar.addi c0_i32_1473 v1512
  v1513.toNat
def k0_dev115 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1477 : BitVec 32 := 22#32
  let v1520 : BitVec 32 := Scalar.addi v2 c22_i32_1477
  let c32_i32_1478 : BitVec 32 := 32#32
  let v1521 : BitVec 32 := Scalar.remsi v1520 c32_i32_1478
  let c1_i32_1484 : BitVec 32 := 1#32
  let v1524 : BitVec 32 := Scalar.muli v1521 c1_i32_1484
  let v1525 : BitVec 32 := Scalar.addi c0_i32_1485 v1524
  v1525.toNat
def k0_dev116 (d0 : Dev nD) : Nat :=
  let c0_i32_1497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1489 : BitVec 32 := 23#32
  let v1532 : BitVec 32 := Scalar.addi v2 c23_i32_1489
  let c32_i32_1490 : BitVec 32 := 32#32
  let v1533 : BitVec 32 := Scalar.remsi v1532 c32_i32_1490
  let c1_i32_1496 : BitVec 32 := 1#32
  let v1536 : BitVec 32 := Scalar.muli v1533 c1_i32_1496
  let v1537 : BitVec 32 := Scalar.addi c0_i32_1497 v1536
  v1537.toNat
def k0_dev117 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1501 : BitVec 32 := 24#32
  let v1544 : BitVec 32 := Scalar.addi v2 c24_i32_1501
  let c32_i32_1502 : BitVec 32 := 32#32
  let v1545 : BitVec 32 := Scalar.remsi v1544 c32_i32_1502
  let c1_i32_1508 : BitVec 32 := 1#32
  let v1548 : BitVec 32 := Scalar.muli v1545 c1_i32_1508
  let v1549 : BitVec 32 := Scalar.addi c0_i32_1509 v1548
  v1549.toNat
def k0_dev118 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1513 : BitVec 32 := 25#32
  let v1556 : BitVec 32 := Scalar.addi v2 c25_i32_1513
  let c32_i32_1514 : BitVec 32 := 32#32
  let v1557 : BitVec 32 := Scalar.remsi v1556 c32_i32_1514
  let c1_i32_1520 : BitVec 32 := 1#32
  let v1560 : BitVec 32 := Scalar.muli v1557 c1_i32_1520
  let v1561 : BitVec 32 := Scalar.addi c0_i32_1521 v1560
  v1561.toNat
def k0_dev119 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1525 : BitVec 32 := 26#32
  let v1568 : BitVec 32 := Scalar.addi v2 c26_i32_1525
  let c32_i32_1526 : BitVec 32 := 32#32
  let v1569 : BitVec 32 := Scalar.remsi v1568 c32_i32_1526
  let c1_i32_1532 : BitVec 32 := 1#32
  let v1572 : BitVec 32 := Scalar.muli v1569 c1_i32_1532
  let v1573 : BitVec 32 := Scalar.addi c0_i32_1533 v1572
  v1573.toNat
def k0_dev120 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1537 : BitVec 32 := 27#32
  let v1580 : BitVec 32 := Scalar.addi v2 c27_i32_1537
  let c32_i32_1538 : BitVec 32 := 32#32
  let v1581 : BitVec 32 := Scalar.remsi v1580 c32_i32_1538
  let c1_i32_1544 : BitVec 32 := 1#32
  let v1584 : BitVec 32 := Scalar.muli v1581 c1_i32_1544
  let v1585 : BitVec 32 := Scalar.addi c0_i32_1545 v1584
  v1585.toNat
def k0_dev121 (d0 : Dev nD) : Nat :=
  let c0_i32_1557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1549 : BitVec 32 := 28#32
  let v1592 : BitVec 32 := Scalar.addi v2 c28_i32_1549
  let c32_i32_1550 : BitVec 32 := 32#32
  let v1593 : BitVec 32 := Scalar.remsi v1592 c32_i32_1550
  let c1_i32_1556 : BitVec 32 := 1#32
  let v1596 : BitVec 32 := Scalar.muli v1593 c1_i32_1556
  let v1597 : BitVec 32 := Scalar.addi c0_i32_1557 v1596
  v1597.toNat
def k0_dev122 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1561 : BitVec 32 := 29#32
  let v1604 : BitVec 32 := Scalar.addi v2 c29_i32_1561
  let c32_i32_1562 : BitVec 32 := 32#32
  let v1605 : BitVec 32 := Scalar.remsi v1604 c32_i32_1562
  let c1_i32_1568 : BitVec 32 := 1#32
  let v1608 : BitVec 32 := Scalar.muli v1605 c1_i32_1568
  let v1609 : BitVec 32 := Scalar.addi c0_i32_1569 v1608
  v1609.toNat
def k0_dev123 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1573 : BitVec 32 := 30#32
  let v1616 : BitVec 32 := Scalar.addi v2 c30_i32_1573
  let c32_i32_1574 : BitVec 32 := 32#32
  let v1617 : BitVec 32 := Scalar.remsi v1616 c32_i32_1574
  let c1_i32_1580 : BitVec 32 := 1#32
  let v1620 : BitVec 32 := Scalar.muli v1617 c1_i32_1580
  let v1621 : BitVec 32 := Scalar.addi c0_i32_1581 v1620
  v1621.toNat
def k0_dev124 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1585 : BitVec 32 := 31#32
  let v1628 : BitVec 32 := Scalar.addi v2 c31_i32_1585
  let c32_i32_1586 : BitVec 32 := 32#32
  let v1629 : BitVec 32 := Scalar.remsi v1628 c32_i32_1586
  let c1_i32_1592 : BitVec 32 := 1#32
  let v1632 : BitVec 32 := Scalar.muli v1629 c1_i32_1592
  let v1633 : BitVec 32 := Scalar.addi c0_i32_1593 v1632
  v1633.toNat
def k0_off12 (d0 : Dev nD) (c1_i32_1597 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1640 : BitVec 32 := Scalar.addi v2 c1_i32_1597
  let c32_i32_1598 : BitVec 32 := 32#32
  let v1641 : BitVec 32 := Scalar.remsi v1640 c32_i32_1598
  let c1_i32_1599 : BitVec 32 := 1#32
  ![v1641.toNat, 1]
def k0_off13 (d0 : Dev nD) (c1_i32_1597 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1640 : BitVec 32 := Scalar.addi v2 c1_i32_1597
  let c32_i32_1598 : BitVec 32 := 32#32
  let v1641 : BitVec 32 := Scalar.remsi v1640 c32_i32_1598
  let c16_i32_1604 : BitVec 32 := 16#32
  let c0_i32_1605 : BitVec 32 := 0#32
  ![v1641.toNat, 16, 0]
def k0_dev125 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1946 : BitVec 32 := 1#32
  let v1961 : BitVec 32 := Scalar.addi v2 c1_i32_1946
  let c32_i32_1947 : BitVec 32 := 32#32
  let v1962 : BitVec 32 := Scalar.remsi v1961 c32_i32_1947
  let c1_i32_1953 : BitVec 32 := 1#32
  let v1965 : BitVec 32 := Scalar.muli v1962 c1_i32_1953
  let v1966 : BitVec 32 := Scalar.addi c0_i32_1954 v1965
  v1966.toNat
def k0_dev126 (d0 : Dev nD) : Nat :=
  let c0_i32_1966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1958 : BitVec 32 := 2#32
  let v1973 : BitVec 32 := Scalar.addi v2 c2_i32_1958
  let c32_i32_1959 : BitVec 32 := 32#32
  let v1974 : BitVec 32 := Scalar.remsi v1973 c32_i32_1959
  let c1_i32_1965 : BitVec 32 := 1#32
  let v1977 : BitVec 32 := Scalar.muli v1974 c1_i32_1965
  let v1978 : BitVec 32 := Scalar.addi c0_i32_1966 v1977
  v1978.toNat
def k0_dev127 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1970 : BitVec 32 := 3#32
  let v1985 : BitVec 32 := Scalar.addi v2 c3_i32_1970
  let c32_i32_1971 : BitVec 32 := 32#32
  let v1986 : BitVec 32 := Scalar.remsi v1985 c32_i32_1971
  let c1_i32_1977 : BitVec 32 := 1#32
  let v1989 : BitVec 32 := Scalar.muli v1986 c1_i32_1977
  let v1990 : BitVec 32 := Scalar.addi c0_i32_1978 v1989
  v1990.toNat
def k0_dev128 (d0 : Dev nD) : Nat :=
  let c0_i32_1990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1982 : BitVec 32 := 4#32
  let v1997 : BitVec 32 := Scalar.addi v2 c4_i32_1982
  let c32_i32_1983 : BitVec 32 := 32#32
  let v1998 : BitVec 32 := Scalar.remsi v1997 c32_i32_1983
  let c1_i32_1989 : BitVec 32 := 1#32
  let v2001 : BitVec 32 := Scalar.muli v1998 c1_i32_1989
  let v2002 : BitVec 32 := Scalar.addi c0_i32_1990 v2001
  v2002.toNat
def k0_dev129 (d0 : Dev nD) : Nat :=
  let c0_i32_2002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1994 : BitVec 32 := 5#32
  let v2009 : BitVec 32 := Scalar.addi v2 c5_i32_1994
  let c32_i32_1995 : BitVec 32 := 32#32
  let v2010 : BitVec 32 := Scalar.remsi v2009 c32_i32_1995
  let c1_i32_2001 : BitVec 32 := 1#32
  let v2013 : BitVec 32 := Scalar.muli v2010 c1_i32_2001
  let v2014 : BitVec 32 := Scalar.addi c0_i32_2002 v2013
  v2014.toNat
def k0_dev130 (d0 : Dev nD) : Nat :=
  let c0_i32_2014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2006 : BitVec 32 := 6#32
  let v2021 : BitVec 32 := Scalar.addi v2 c6_i32_2006
  let c32_i32_2007 : BitVec 32 := 32#32
  let v2022 : BitVec 32 := Scalar.remsi v2021 c32_i32_2007
  let c1_i32_2013 : BitVec 32 := 1#32
  let v2025 : BitVec 32 := Scalar.muli v2022 c1_i32_2013
  let v2026 : BitVec 32 := Scalar.addi c0_i32_2014 v2025
  v2026.toNat
def k0_dev131 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2018 : BitVec 32 := 7#32
  let v2033 : BitVec 32 := Scalar.addi v2 c7_i32_2018
  let c32_i32_2019 : BitVec 32 := 32#32
  let v2034 : BitVec 32 := Scalar.remsi v2033 c32_i32_2019
  let c1_i32_2025 : BitVec 32 := 1#32
  let v2037 : BitVec 32 := Scalar.muli v2034 c1_i32_2025
  let v2038 : BitVec 32 := Scalar.addi c0_i32_2026 v2037
  v2038.toNat
def k0_dev132 (d0 : Dev nD) : Nat :=
  let c0_i32_2038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2030 : BitVec 32 := 8#32
  let v2045 : BitVec 32 := Scalar.addi v2 c8_i32_2030
  let c32_i32_2031 : BitVec 32 := 32#32
  let v2046 : BitVec 32 := Scalar.remsi v2045 c32_i32_2031
  let c1_i32_2037 : BitVec 32 := 1#32
  let v2049 : BitVec 32 := Scalar.muli v2046 c1_i32_2037
  let v2050 : BitVec 32 := Scalar.addi c0_i32_2038 v2049
  v2050.toNat
def k0_dev133 (d0 : Dev nD) : Nat :=
  let c0_i32_2050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2042 : BitVec 32 := 9#32
  let v2057 : BitVec 32 := Scalar.addi v2 c9_i32_2042
  let c32_i32_2043 : BitVec 32 := 32#32
  let v2058 : BitVec 32 := Scalar.remsi v2057 c32_i32_2043
  let c1_i32_2049 : BitVec 32 := 1#32
  let v2061 : BitVec 32 := Scalar.muli v2058 c1_i32_2049
  let v2062 : BitVec 32 := Scalar.addi c0_i32_2050 v2061
  v2062.toNat
def k0_dev134 (d0 : Dev nD) : Nat :=
  let c0_i32_2062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2054 : BitVec 32 := 10#32
  let v2069 : BitVec 32 := Scalar.addi v2 c10_i32_2054
  let c32_i32_2055 : BitVec 32 := 32#32
  let v2070 : BitVec 32 := Scalar.remsi v2069 c32_i32_2055
  let c1_i32_2061 : BitVec 32 := 1#32
  let v2073 : BitVec 32 := Scalar.muli v2070 c1_i32_2061
  let v2074 : BitVec 32 := Scalar.addi c0_i32_2062 v2073
  v2074.toNat
def k0_dev135 (d0 : Dev nD) : Nat :=
  let c0_i32_2074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2066 : BitVec 32 := 11#32
  let v2081 : BitVec 32 := Scalar.addi v2 c11_i32_2066
  let c32_i32_2067 : BitVec 32 := 32#32
  let v2082 : BitVec 32 := Scalar.remsi v2081 c32_i32_2067
  let c1_i32_2073 : BitVec 32 := 1#32
  let v2085 : BitVec 32 := Scalar.muli v2082 c1_i32_2073
  let v2086 : BitVec 32 := Scalar.addi c0_i32_2074 v2085
  v2086.toNat
def k0_dev136 (d0 : Dev nD) : Nat :=
  let c0_i32_2086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2078 : BitVec 32 := 12#32
  let v2093 : BitVec 32 := Scalar.addi v2 c12_i32_2078
  let c32_i32_2079 : BitVec 32 := 32#32
  let v2094 : BitVec 32 := Scalar.remsi v2093 c32_i32_2079
  let c1_i32_2085 : BitVec 32 := 1#32
  let v2097 : BitVec 32 := Scalar.muli v2094 c1_i32_2085
  let v2098 : BitVec 32 := Scalar.addi c0_i32_2086 v2097
  v2098.toNat
def k0_dev137 (d0 : Dev nD) : Nat :=
  let c0_i32_2098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2090 : BitVec 32 := 13#32
  let v2105 : BitVec 32 := Scalar.addi v2 c13_i32_2090
  let c32_i32_2091 : BitVec 32 := 32#32
  let v2106 : BitVec 32 := Scalar.remsi v2105 c32_i32_2091
  let c1_i32_2097 : BitVec 32 := 1#32
  let v2109 : BitVec 32 := Scalar.muli v2106 c1_i32_2097
  let v2110 : BitVec 32 := Scalar.addi c0_i32_2098 v2109
  v2110.toNat
def k0_dev138 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2102 : BitVec 32 := 14#32
  let v2117 : BitVec 32 := Scalar.addi v2 c14_i32_2102
  let c32_i32_2103 : BitVec 32 := 32#32
  let v2118 : BitVec 32 := Scalar.remsi v2117 c32_i32_2103
  let c1_i32_2109 : BitVec 32 := 1#32
  let v2121 : BitVec 32 := Scalar.muli v2118 c1_i32_2109
  let v2122 : BitVec 32 := Scalar.addi c0_i32_2110 v2121
  v2122.toNat
def k0_dev139 (d0 : Dev nD) : Nat :=
  let c0_i32_2122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2114 : BitVec 32 := 15#32
  let v2129 : BitVec 32 := Scalar.addi v2 c15_i32_2114
  let c32_i32_2115 : BitVec 32 := 32#32
  let v2130 : BitVec 32 := Scalar.remsi v2129 c32_i32_2115
  let c1_i32_2121 : BitVec 32 := 1#32
  let v2133 : BitVec 32 := Scalar.muli v2130 c1_i32_2121
  let v2134 : BitVec 32 := Scalar.addi c0_i32_2122 v2133
  v2134.toNat
def k0_dev140 (d0 : Dev nD) : Nat :=
  let c0_i32_2134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2126 : BitVec 32 := 16#32
  let v2141 : BitVec 32 := Scalar.addi v2 c16_i32_2126
  let c32_i32_2127 : BitVec 32 := 32#32
  let v2142 : BitVec 32 := Scalar.remsi v2141 c32_i32_2127
  let c1_i32_2133 : BitVec 32 := 1#32
  let v2145 : BitVec 32 := Scalar.muli v2142 c1_i32_2133
  let v2146 : BitVec 32 := Scalar.addi c0_i32_2134 v2145
  v2146.toNat
def k0_dev141 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2138 : BitVec 32 := 17#32
  let v2153 : BitVec 32 := Scalar.addi v2 c17_i32_2138
  let c32_i32_2139 : BitVec 32 := 32#32
  let v2154 : BitVec 32 := Scalar.remsi v2153 c32_i32_2139
  let c1_i32_2145 : BitVec 32 := 1#32
  let v2157 : BitVec 32 := Scalar.muli v2154 c1_i32_2145
  let v2158 : BitVec 32 := Scalar.addi c0_i32_2146 v2157
  v2158.toNat
def k0_dev142 (d0 : Dev nD) : Nat :=
  let c0_i32_2158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2150 : BitVec 32 := 18#32
  let v2165 : BitVec 32 := Scalar.addi v2 c18_i32_2150
  let c32_i32_2151 : BitVec 32 := 32#32
  let v2166 : BitVec 32 := Scalar.remsi v2165 c32_i32_2151
  let c1_i32_2157 : BitVec 32 := 1#32
  let v2169 : BitVec 32 := Scalar.muli v2166 c1_i32_2157
  let v2170 : BitVec 32 := Scalar.addi c0_i32_2158 v2169
  v2170.toNat
def k0_dev143 (d0 : Dev nD) : Nat :=
  let c0_i32_2170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2162 : BitVec 32 := 19#32
  let v2177 : BitVec 32 := Scalar.addi v2 c19_i32_2162
  let c32_i32_2163 : BitVec 32 := 32#32
  let v2178 : BitVec 32 := Scalar.remsi v2177 c32_i32_2163
  let c1_i32_2169 : BitVec 32 := 1#32
  let v2181 : BitVec 32 := Scalar.muli v2178 c1_i32_2169
  let v2182 : BitVec 32 := Scalar.addi c0_i32_2170 v2181
  v2182.toNat
def k0_dev144 (d0 : Dev nD) : Nat :=
  let c0_i32_2182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2174 : BitVec 32 := 20#32
  let v2189 : BitVec 32 := Scalar.addi v2 c20_i32_2174
  let c32_i32_2175 : BitVec 32 := 32#32
  let v2190 : BitVec 32 := Scalar.remsi v2189 c32_i32_2175
  let c1_i32_2181 : BitVec 32 := 1#32
  let v2193 : BitVec 32 := Scalar.muli v2190 c1_i32_2181
  let v2194 : BitVec 32 := Scalar.addi c0_i32_2182 v2193
  v2194.toNat
def k0_dev145 (d0 : Dev nD) : Nat :=
  let c0_i32_2194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2186 : BitVec 32 := 21#32
  let v2201 : BitVec 32 := Scalar.addi v2 c21_i32_2186
  let c32_i32_2187 : BitVec 32 := 32#32
  let v2202 : BitVec 32 := Scalar.remsi v2201 c32_i32_2187
  let c1_i32_2193 : BitVec 32 := 1#32
  let v2205 : BitVec 32 := Scalar.muli v2202 c1_i32_2193
  let v2206 : BitVec 32 := Scalar.addi c0_i32_2194 v2205
  v2206.toNat
def k0_dev146 (d0 : Dev nD) : Nat :=
  let c0_i32_2206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2198 : BitVec 32 := 22#32
  let v2213 : BitVec 32 := Scalar.addi v2 c22_i32_2198
  let c32_i32_2199 : BitVec 32 := 32#32
  let v2214 : BitVec 32 := Scalar.remsi v2213 c32_i32_2199
  let c1_i32_2205 : BitVec 32 := 1#32
  let v2217 : BitVec 32 := Scalar.muli v2214 c1_i32_2205
  let v2218 : BitVec 32 := Scalar.addi c0_i32_2206 v2217
  v2218.toNat
def k0_dev147 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2210 : BitVec 32 := 23#32
  let v2225 : BitVec 32 := Scalar.addi v2 c23_i32_2210
  let c32_i32_2211 : BitVec 32 := 32#32
  let v2226 : BitVec 32 := Scalar.remsi v2225 c32_i32_2211
  let c1_i32_2217 : BitVec 32 := 1#32
  let v2229 : BitVec 32 := Scalar.muli v2226 c1_i32_2217
  let v2230 : BitVec 32 := Scalar.addi c0_i32_2218 v2229
  v2230.toNat
def k0_dev148 (d0 : Dev nD) : Nat :=
  let c0_i32_2230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2222 : BitVec 32 := 24#32
  let v2237 : BitVec 32 := Scalar.addi v2 c24_i32_2222
  let c32_i32_2223 : BitVec 32 := 32#32
  let v2238 : BitVec 32 := Scalar.remsi v2237 c32_i32_2223
  let c1_i32_2229 : BitVec 32 := 1#32
  let v2241 : BitVec 32 := Scalar.muli v2238 c1_i32_2229
  let v2242 : BitVec 32 := Scalar.addi c0_i32_2230 v2241
  v2242.toNat
def k0_dev149 (d0 : Dev nD) : Nat :=
  let c0_i32_2242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2234 : BitVec 32 := 25#32
  let v2249 : BitVec 32 := Scalar.addi v2 c25_i32_2234
  let c32_i32_2235 : BitVec 32 := 32#32
  let v2250 : BitVec 32 := Scalar.remsi v2249 c32_i32_2235
  let c1_i32_2241 : BitVec 32 := 1#32
  let v2253 : BitVec 32 := Scalar.muli v2250 c1_i32_2241
  let v2254 : BitVec 32 := Scalar.addi c0_i32_2242 v2253
  v2254.toNat
def k0_dev150 (d0 : Dev nD) : Nat :=
  let c0_i32_2254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2246 : BitVec 32 := 26#32
  let v2261 : BitVec 32 := Scalar.addi v2 c26_i32_2246
  let c32_i32_2247 : BitVec 32 := 32#32
  let v2262 : BitVec 32 := Scalar.remsi v2261 c32_i32_2247
  let c1_i32_2253 : BitVec 32 := 1#32
  let v2265 : BitVec 32 := Scalar.muli v2262 c1_i32_2253
  let v2266 : BitVec 32 := Scalar.addi c0_i32_2254 v2265
  v2266.toNat
def k0_dev151 (d0 : Dev nD) : Nat :=
  let c0_i32_2266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2258 : BitVec 32 := 27#32
  let v2273 : BitVec 32 := Scalar.addi v2 c27_i32_2258
  let c32_i32_2259 : BitVec 32 := 32#32
  let v2274 : BitVec 32 := Scalar.remsi v2273 c32_i32_2259
  let c1_i32_2265 : BitVec 32 := 1#32
  let v2277 : BitVec 32 := Scalar.muli v2274 c1_i32_2265
  let v2278 : BitVec 32 := Scalar.addi c0_i32_2266 v2277
  v2278.toNat
def k0_dev152 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2270 : BitVec 32 := 28#32
  let v2285 : BitVec 32 := Scalar.addi v2 c28_i32_2270
  let c32_i32_2271 : BitVec 32 := 32#32
  let v2286 : BitVec 32 := Scalar.remsi v2285 c32_i32_2271
  let c1_i32_2277 : BitVec 32 := 1#32
  let v2289 : BitVec 32 := Scalar.muli v2286 c1_i32_2277
  let v2290 : BitVec 32 := Scalar.addi c0_i32_2278 v2289
  v2290.toNat
def k0_dev153 (d0 : Dev nD) : Nat :=
  let c0_i32_2290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2282 : BitVec 32 := 29#32
  let v2297 : BitVec 32 := Scalar.addi v2 c29_i32_2282
  let c32_i32_2283 : BitVec 32 := 32#32
  let v2298 : BitVec 32 := Scalar.remsi v2297 c32_i32_2283
  let c1_i32_2289 : BitVec 32 := 1#32
  let v2301 : BitVec 32 := Scalar.muli v2298 c1_i32_2289
  let v2302 : BitVec 32 := Scalar.addi c0_i32_2290 v2301
  v2302.toNat
def k0_dev154 (d0 : Dev nD) : Nat :=
  let c0_i32_2302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2294 : BitVec 32 := 30#32
  let v2309 : BitVec 32 := Scalar.addi v2 c30_i32_2294
  let c32_i32_2295 : BitVec 32 := 32#32
  let v2310 : BitVec 32 := Scalar.remsi v2309 c32_i32_2295
  let c1_i32_2301 : BitVec 32 := 1#32
  let v2313 : BitVec 32 := Scalar.muli v2310 c1_i32_2301
  let v2314 : BitVec 32 := Scalar.addi c0_i32_2302 v2313
  v2314.toNat
def k0_dev155 (d0 : Dev nD) : Nat :=
  let c0_i32_2314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2306 : BitVec 32 := 31#32
  let v2321 : BitVec 32 := Scalar.addi v2 c31_i32_2306
  let c32_i32_2307 : BitVec 32 := 32#32
  let v2322 : BitVec 32 := Scalar.remsi v2321 c32_i32_2307
  let c1_i32_2313 : BitVec 32 := 1#32
  let v2325 : BitVec 32 := Scalar.muli v2322 c1_i32_2313
  let v2326 : BitVec 32 := Scalar.addi c0_i32_2314 v2325
  v2326.toNat
def k0_off14 (d0 : Dev nD) (c1_i32_2318 : BitVec 32) (c0_i32_2332 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2333 : BitVec 32 := Scalar.addi v2 c1_i32_2318
  let c32_i32_2319 : BitVec 32 := 32#32
  let v2334 : BitVec 32 := Scalar.remsi v2333 c32_i32_2319
  let c32_i32_2331 : BitVec 32 := 32#32
  let v2345 : BitVec 32 := Scalar.muli v2334 c32_i32_2331
  let v2346 : BitVec 32 := Scalar.addi v2345 c0_i32_2332
  let v2347 : Index := Scalar.indexCast v2346
  let c0_2333 : Index := 0#32
  ![v2347.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S32x1024x512 : Shape := ⟨3, ![32, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32x1024x512, .f32⟩
  | .hbm, ⟨2, _⟩ => ⟨S_, .f32⟩
  | .hbm, ⟨3, _⟩ => ⟨S1024x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/- The kernel's body as a list of short steps.

   The printed body writes every transfer and every wait out, one after another. Here the same
   operations are written once each, for a symbolic distance `r` to the other device and a symbolic
   half `s` of a chunk, and the body is shown to be the sequence of those steps. -/
module

public import proofs.«01_k».proof.Proof.Gen.KernelIdeal.Skeleton
public import proofs.«01_k».proof.Proof.Gen.KernelIdeal.Launch

@[expose] public section

noncomputable section

namespace Cert.AllReduce

open Cert.KernelIdeal Cert.KernelIdeal.Gen
open Idealize.ShloMosaic Idealize.SL.Sem

variable {F : FTy → Type} [FloatOps F]

/-! ## The buffers and the words the body computes -/

/-- The staged input chunk, the staged output, and the four scratch buffers: the input in the wire's
    format, the pieces received for the reduction, the reduced chunk, and the gathered chunks. -/
abbrev xM : Memref sig .tc .vmem S1024x512 .f32 := Memref.whole cc0_stg0_0
abbrev outM : Memref sig .tc .vmem S1024x512 .f32 := Memref.whole cc0_stg1_0
abbrev xbM : Memref sig .tc .vmem S1024x512 .bf16 := Memref.whole cc0_scratch0
abbrev rsM : Memref sig .tc .vmem S32x32x512 .bf16 := Memref.whole cc0_scratch1
abbrev obM : Memref sig .tc .vmem S32x512 .bf16 := Memref.whole cc0_scratch2
abbrev agM : Memref sig .tc .vmem S1024x512 .bf16 := Memref.whole cc0_scratch3

/-- The device's own number, as the body computes it. -/
abbrev me (c : Dev nD) : BitVec 32 := Scalar.remsi (Scalar.divsi (Dev.word c) 1#32) 32#32
/-- The number of the device `r + 1` places further round, as the body computes it. -/
abbrev pw (c : Dev nD) (r : Fin 31) : BitVec 32 := Scalar.remsi (Scalar.addi (me c) (BitVec.ofNat 32 (1 + r.val))) 32#32

/-- The index the body names that device by. -/
def devW (c : Dev nD) (r : Fin 31) : Nat := (Scalar.addi 0#32 (Scalar.muli (pw c r) 1#32)).toNat
theorem devW_eq (c : Dev nD) (r : Fin 31) : devW c r = (c.val + r.val + 1) % 32 := by
  revert c r; decide +kernel
theorem devW_lt (c : Dev nD) (r : Fin 31) : devW c r < nD := by
  rw [devW_eq]; exact Nat.mod_lt _ (by decide)

/-- The device `r + 1` places further round. -/
def peer (c : Dev nD) (r : Fin 31) : Dev nD := ⟨(c.val + r.val + 1) % 32, Nat.mod_lt _ (by decide)⟩
theorem devW_mk (c : Dev nD) (r : Fin 31) : (⟨devW c r, devW_lt c r⟩ : Dev nD) = peer c r := Fin.ext (devW_eq c r)

/-- Where a device's own semaphore, and the semaphore of a device further round, stand in an array of
    semaphores. -/
def semOwn (c : Dev nD) (s : Fin 2) : Fin 2 → Nat := ![(me c).toNat, s.val]
def semPeer (c : Dev nD) (r : Fin 31) (s : Fin 2) : Fin 2 → Nat := ![(pw c r).toNat, s.val]
def semSend (r : Fin 31) (s : Fin 2) : Fin 2 → Nat := ![1 + r.val, s.val]
theorem semOwn_eq (c : Dev nD) (s : Fin 2) : semOwn c s = ![c.val, s.val] := by revert c s; decide +kernel
theorem semPeer_eq (c : Dev nD) (r : Fin 31) (s : Fin 2) : semPeer c r s = ![(peer c r).val, s.val] := by
  revert c r s; decide +kernel
theorem semSend_eq (r : Fin 31) (s : Fin 2) : semSend r s = ![(peer 0 r).val, s.val] := by revert r s; decide +kernel
theorem semOwn_inb (c : Dev nD) (s : Fin 2) (a : Fin 2) : semOwn c s a + S1x1.size a ≤ S32x2.size a := by
  revert c s a; decide +kernel
theorem semPeer_inb (c : Dev nD) (r : Fin 31) (s : Fin 2) (a : Fin 2) : semPeer c r s a + S1x1.size a ≤ S32x2.size a := by
  rw [semPeer_eq]; generalize peer c r = k; revert k s a; decide +kernel
theorem semSend_inb (r : Fin 31) (s : Fin 2) (a : Fin 2) : semSend r s a + S1x1.size a ≤ S32x2.size a := by
  revert r s a; decide +kernel

/-- Where a half of the piece of a device stands in the buffer of received pieces. -/
def rsOwn (c : Dev nD) (s : Fin 2) : Fin 3 → Nat := ![(me c).toNat, 16 * s.val, 0]
def rsPeer (c : Dev nD) (r : Fin 31) (s : Fin 2) : Fin 3 → Nat := ![(pw c r).toNat, 16 * s.val, 0]
theorem rsOwn_eq (c : Dev nD) (s : Fin 2) : rsOwn c s = ![c.val, 16 * s.val, 0] := by revert c s; decide +kernel
theorem rsPeer_eq (c : Dev nD) (r : Fin 31) (s : Fin 2) : rsPeer c r s = ![(peer c r).val, 16 * s.val, 0] := by
  revert c r s; decide +kernel
theorem rs_inb (k : Fin 32) (s : Fin 2) (a : Fin 3) :
    (![k.val, 16 * s.val, 0] : Fin 3 → Nat) a + S1x16x512.size a ≤ S32x32x512.size a := by revert k s a; decide +kernel
theorem rs_words (k : Fin 32) (s : Fin 2) :
    (Rect.unit (s := S32x32x512) ![k.val, 16 * s.val, 0] S1x16x512.size (rs_inb k s)).WholeWords (EltTy.packing .bf16) := by
  revert k s; decide +kernel
theorem rsOwn_inb (c : Dev nD) (s : Fin 2) (a : Fin 3) : rsOwn c s a + S1x16x512.size a ≤ S32x32x512.size a := by
  rw [rsOwn_eq]; exact rs_inb c s a
theorem rsPeer_inb (c : Dev nD) (r : Fin 31) (s : Fin 2) (a : Fin 3) : rsPeer c r s a + S1x16x512.size a ≤ S32x32x512.size a := by
  rw [rsPeer_eq]; exact rs_inb _ s a
theorem words_congr {off off' : Fin 3 → Nat} (e : off = off') (h : ∀ a, off a + S1x16x512.size a ≤ S32x32x512.size a)
    (h' : ∀ a, off' a + S1x16x512.size a ≤ S32x32x512.size a)
    (hw : (Rect.unit (s := S32x32x512) off' S1x16x512.size h').WholeWords (EltTy.packing .bf16)) :
    (Rect.unit (s := S32x32x512) off S1x16x512.size h).WholeWords (EltTy.packing .bf16) := by subst e; exact hw
theorem rsOwn_words (c : Dev nD) (s : Fin 2) :
    (Rect.unit (s := S32x32x512) (rsOwn c s) S1x16x512.size (rsOwn_inb c s)).WholeWords (EltTy.packing .bf16) :=
  words_congr (rsOwn_eq c s) _ _ (rs_words c s)
theorem rsPeer_words (c : Dev nD) (r : Fin 31) (s : Fin 2) :
    (Rect.unit (s := S32x32x512) (rsPeer c r s) S1x16x512.size (rsPeer_inb c r s)).WholeWords (EltTy.packing .bf16) :=
  words_congr (rsPeer_eq c r s) _ _ (rs_words _ s)

/-- The rows of a half of the chunk of a device further round, of the own chunk, and of the reduced chunk. -/
abbrev rowPeer (c : Dev nD) (r : Fin 31) (s : Fin 2) : Fin 2 → Nat := k0_off3 c (BitVec.ofNat 32 (1 + r.val)) (BitVec.ofNat 32 (16 * s.val))
abbrev rowPeer' (c : Dev nD) (r : Fin 31) (s : Fin 2) : Fin 2 → Nat := k0_off14 c (BitVec.ofNat 32 (1 + r.val)) (BitVec.ofNat 32 (16 * s.val))
abbrev rowOwn (c : Dev nD) (s : Fin 2) : Fin 2 → Nat := k0_off11 c (BitVec.ofNat 32 (16 * s.val))
abbrev rowOwn' (c : Dev nD) (s : Fin 2) : Fin 2 → Nat := k0_off10 c (BitVec.ofNat 32 (16 * s.val))
def obOff (s : Fin 2) : Fin 2 → Nat := ![16 * s.val, 0]
theorem obOff_inb (s : Fin 2) (a : Fin 2) : obOff s a + S16x512.size a ≤ S32x512.size a := by revert s a; decide +kernel
theorem obOff_packed (s : Fin 2) :
    (Rect.unit (s := S32x512) (obOff s) S16x512.size (obOff_inb s)).PackedRows (EltTy.packing .bf16) := by
  revert s; decide +kernel
theorem obOff_words (s : Fin 2) :
    (Rect.unit (s := S32x512) (obOff s) S16x512.size (obOff_inb s)).WholeWords (EltTy.packing .bf16) := by
  revert s; decide +kernel
def redOff (s : Fin 2) : Fin 3 → Nat := ![0, 16 * s.val, 0]
theorem redOff_inb (s : Fin 2) (a : Fin 3) : redOff s a + S32x16x512.size a ≤ S32x32x512.size a := by revert s a; decide +kernel

/-! ## The views -/

/-- A half of the piece destined to a device further round, of the input in the wire's format. -/
abbrev xbV (c : Dev nD) (r : Fin 31) (s : Fin 2) : Memref sig .tc .vmem S16x512 .bf16 :=
  xbM.slice (Rect.unit (s := S1024x512) (rowPeer c r s) S16x512.size (k0_off3_inb c r s)) (fun _ => rfl)
/-- Where a device's own half piece lands on the device it is sent to. -/
abbrev rsOwnV (c : Dev nD) (s : Fin 2) : Memref sig .tc .vmem S16x512 .bf16 :=
  (rsM.slice (Rect.unit (s := S32x32x512) (rsOwn c s) S1x16x512.size (rsOwn_inb c s)) (fun _ => rfl)).squeeze S16x512 squeezes_S1x16x512_S16x512
/-- Where the half piece of a device further round lands. -/
abbrev rsPeerV (c : Dev nD) (r : Fin 31) (s : Fin 2) : Memref sig .tc .vmem S16x512 .bf16 :=
  (rsM.slice (Rect.unit (s := S32x32x512) (rsPeer c r s) S1x16x512.size (rsPeer_inb c r s)) (fun _ => rfl)).squeeze S16x512 squeezes_S1x16x512_S16x512
/-- A half of the reduced chunk. -/
abbrev obV (s : Fin 2) : Memref sig .tc .vmem S16x512 .bf16 :=
  obM.slice (Rect.unit (s := S32x512) (obOff s) S16x512.size (obOff_inb s)) (fun _ => rfl)
/-- Where a device's own reduced half chunk lands on every other device. -/
abbrev agOwnV (c : Dev nD) (s : Fin 2) : Memref sig .tc .vmem S16x512 .bf16 :=
  agM.slice (Rect.unit (s := S1024x512) (rowOwn c s) S16x512.size (k0_off11_inb c s)) (fun _ => rfl)
/-- Where the reduced half chunk of a device further round lands. -/
abbrev agPeerV (c : Dev nD) (r : Fin 31) (s : Fin 2) : Memref sig .tc .vmem S16x512 .bf16 :=
  agM.slice (Rect.unit (s := S1024x512) (rowPeer c r s) S16x512.size (k0_off3_inb c r s)) (fun _ => rfl)

/-- A semaphore of an array, at an offset. -/
abbrev semAt (A : DmaSems sig S32x2) (off : Fin 2 → Nat) (h : ∀ a, off a + S1x1.size a ≤ S32x2.size a) : DmaSem sig :=
  ((A.slice (Rect.unit (s := S32x2) off S1x1.size h)).squeeze S_ squeezes_S1x1_S_).sem

/-- The barrier's semaphore. -/
abbrev barS : Sem sig := (SemArray.scalar (sig.barrier 0 rfl) : Sems sig S_).sem

/-! ## The steps -/

/-- One signal to a device further round. -/
def signalP (c : Dev nD) (r : Fin 31) : Prog (TpuEff nD τ sig (Elt F) Λ₀ .tc) PUnit :=
  semSignalWord (⟨devW c r, devW_lt c r⟩ : Dev nD) barS 1#32

/-- The wait for every other device's signal. -/
def barWaitP : Prog (TpuEff nD τ sig (Elt F) Λ₀ .tc) PUnit := semWaitWord barS 31#32

/-- A remote copy of a half piece. -/
def sendP (src dst : Memref sig .tc .vmem S16x512 .bf16) (d : Dev nD) (sS sR : DmaSem sig)
    (h₁ : src.view.WordExact) (h₂ : dst.view.WordExact) : Prog (TpuEff nD τ sig (Elt F) Λ₀ .tc) PUnit :=
  Prog.lift (.enqueueDma src (.remote (Dev.tc d) dst (.dma sS)) (.dma sR) h₁ h₂ ⟨⟨rfl, Or.inl rfl⟩, trivial⟩)

/-- A wait for a half piece's bytes on a semaphore. -/
def waitP (sem : DmaSem sig) (src dst : Memref sig .tc .vmem S16x512 .bf16)
    (h₁ : src.view.WordExact) (h₂ : dst.view.WordExact) : Prog (TpuEff nD τ sig (Elt F) Λ₀ .tc) PUnit :=
  Prog.lift (.waitDma2 sem src dst h₁ h₂)

/-- The input rounded into the wire's format. -/
def castP : Prog (TpuEff nD τ sig (Elt F) Λ₀ .tc) PUnit := do
  let v : Vec F S1024x512 .f32 ← Prog.lift (.load xM (Rect.unit (s := S1024x512) ![0, 0] S1024x512.size inb_S1024x512_S1024x512_0_0).toLoadRect (View.loadsAt_vmem h_S1024x512))
  let _ : Vec F S1024x512 .bf16 ← Prog.lift (.load xbM (Rect.unit (s := S1024x512) ![0, 0] S1024x512.size inb_S1024x512_S1024x512_0_0).toLoadRect (View.loadsAt_vmem h_S1024x512))
  Prog.lift (.store xbM (Rect.unit (s := S1024x512) ![0, 0] S1024x512.size inb_S1024x512_S1024x512_0_0) (k0_pay1 v) Finset.univ (View.stores_vmem h_S1024x512 ((Memref.isWhole_whole cc0_scratch0).storeExact_slice rfl _ packedbf16_S1024x512_S1024x512_0_0) (fun _ => rfl)) (.inl rfl))

/-- A half piece sent to a device further round. -/
def send1P (c : Dev nD) (s : Fin 2) (r : Fin 31) : Prog (TpuEff nD τ sig (Elt F) Λ₀ .tc) PUnit :=
  sendP (xbV c r s) (rsOwnV c s) ⟨devW c r, devW_lt c r⟩
    (semAt cc0_scratch4 (semSend r s) (semSend_inb r s)) (semAt cc0_scratch5 (semOwn c s) (semOwn_inb c s))
    ((Memref.isWhole_whole cc0_scratch0).wordExact_slice rfl _ (k0_off3_wordsbf16 c r s))
    (((Memref.isWhole_whole cc0_scratch1).wordExact_slice rfl _ (rsOwn_words c s)).reshape _ _)

/-- The own piece copied to where the received ones are. -/
def ownP (c : Dev nD) : Prog (TpuEff nD τ sig (Elt F) Λ₀ .tc) PUnit := do
  let v : Vec F S32x512 .bf16 ← Prog.lift (.load xbM (Rect.unit (s := S1024x512) (k0_off6 c) S32x512.size (k0_off6_inb c)).toLoadRect (View.loadsAt_vmem h_S32x512))
  let _ : Vec F S1x32x512 .bf16 ← Prog.lift (.load rsM (Rect.unit (s := S32x32x512) (k0_off7 c) S1x32x512.size (k0_off7_inb c)).toLoadRect (View.loadsAt_vmem h_S1x32x512))
  Prog.lift (.store rsM (Rect.unit (s := S32x32x512) (k0_off7 c) S1x32x512.size (k0_off7_inb c)) (k0_pay2 v) Finset.univ (View.stores_vmem h_S1x32x512 ((Memref.isWhole_whole cc0_scratch1).storeExact_slice rfl _ (k0_off7_packedbf16 c)) (fun _ => rfl)) (.inl rfl))

/-- The wait for a half piece of a device further round. -/
def recv1P (c : Dev nD) (s : Fin 2) (r : Fin 31) : Prog (TpuEff nD τ sig (Elt F) Λ₀ .tc) PUnit :=
  waitP (semAt cc0_scratch5 (semPeer c r s) (semPeer_inb c r s)) (rsPeerV c r s) (rsPeerV c r s)
    (((Memref.isWhole_whole cc0_scratch1).wordExact_slice rfl _ (rsPeer_words c r s)).reshape _ _)
    (((Memref.isWhole_whole cc0_scratch1).wordExact_slice rfl _ (rsPeer_words c r s)).reshape _ _)

/-- Half a chunk reduced over all devices, kept in full precision and rounded into the wire's format. -/
def reduceP (c : Dev nD) (s : Fin 2) : Prog (TpuEff nD τ sig (Elt F) Λ₀ .tc) PUnit := do
  let v : Vec F S32x16x512 .bf16 ← Prog.lift (.load rsM (Rect.unit (s := S32x32x512) (redOff s) S32x16x512.size (redOff_inb s)).toLoadRect (View.loadsAt_vmem h_S32x16x512))
  let _ : Vec F S16x512 .f32 ← Prog.lift (.load outM (Rect.unit (s := S1024x512) (rowOwn' c s) S16x512.size (k0_off10_inb c s)).toLoadRect (View.loadsAt_vmem h_S16x512))
  Prog.lift (.store outM (Rect.unit (s := S1024x512) (rowOwn' c s) S16x512.size (k0_off10_inb c s)) (k0_pay3 v) Finset.univ (View.stores_vmem_bits_univ h_S16x512 rfl) (.inl rfl))
  let _ : Vec F S16x512 .bf16 ← Prog.lift (.load obM (Rect.unit (s := S32x512) (obOff s) S16x512.size (obOff_inb s)).toLoadRect (View.loadsAt_vmem h_S16x512))
  Prog.lift (.store obM (Rect.unit (s := S32x512) (obOff s) S16x512.size (obOff_inb s)) (k0_pay4 v) Finset.univ (View.stores_vmem h_S16x512 ((Memref.isWhole_whole cc0_scratch2).storeExact_slice rfl _ (obOff_packed s)) (fun _ => rfl)) (.inl rfl))

/-- The reduced half chunk sent to a device further round. -/
def send2P (c : Dev nD) (s : Fin 2) (r : Fin 31) : Prog (TpuEff nD τ sig (Elt F) Λ₀ .tc) PUnit :=
  sendP (obV s) (agOwnV c s) ⟨devW c r, devW_lt c r⟩
    (semAt cc0_scratch6 (semSend r s) (semSend_inb r s)) (semAt cc0_scratch7 (semOwn c s) (semOwn_inb c s))
    ((Memref.isWhole_whole cc0_scratch2).wordExact_slice rfl _ (obOff_words s))
    ((Memref.isWhole_whole cc0_scratch3).wordExact_slice rfl _ (k0_off11_wordsbf16 c s))

/-- The wait for a reduced half chunk of a device further round. -/
def recv2P (c : Dev nD) (s : Fin 2) (r : Fin 31) : Prog (TpuEff nD τ sig (Elt F) Λ₀ .tc) PUnit :=
  waitP (semAt cc0_scratch7 (semPeer c r s) (semPeer_inb c r s)) (agPeerV c r s) (agPeerV c r s)
    ((Memref.isWhole_whole cc0_scratch3).wordExact_slice rfl _ (k0_off3_wordsbf16 c r s))
    ((Memref.isWhole_whole cc0_scratch3).wordExact_slice rfl _ (k0_off3_wordsbf16 c r s))

/-- A received reduced half chunk widened into the output. -/
def widenP (c : Dev nD) (s : Fin 2) (r : Fin 31) : Prog (TpuEff nD τ sig (Elt F) Λ₀ .tc) PUnit := do
  let v : Vec F S16x512 .bf16 ← Prog.lift (.load agM (Rect.unit (s := S1024x512) (rowPeer' c r s) S16x512.size (k0_off14_inb c r s)).toLoadRect (View.loadsAt_vmem h_S16x512))
  let _ : Vec F S16x512 .f32 ← Prog.lift (.load outM (Rect.unit (s := S1024x512) (rowPeer' c r s) S16x512.size (k0_off14_inb c r s)).toLoadRect (View.loadsAt_vmem h_S16x512))
  Prog.lift (.store outM (Rect.unit (s := S1024x512) (rowPeer' c r s) S16x512.size (k0_off14_inb c r s)) (k0_pay7 v) Finset.univ (View.stores_vmem_bits_univ h_S16x512 rfl) (.inl rfl))

/-- A reduced half chunk received and put into the output. -/
def gatherP (c : Dev nD) (s : Fin 2) (r : Fin 31) : Prog (TpuEff nD τ sig (Elt F) Λ₀ .tc) PUnit :=
  recv2P c s r >>= fun _ => widenP c s r

/-- The wait for a send of the first phase to have left. -/
def sent1P (c : Dev nD) (s : Fin 2) (r : Fin 31) : Prog (TpuEff nD τ sig (Elt F) Λ₀ .tc) PUnit :=
  waitP (semAt cc0_scratch4 (semSend r s) (semSend_inb r s)) (rsOwnV c s) (xbV c r s)
    (((Memref.isWhole_whole cc0_scratch1).wordExact_slice rfl _ (rsOwn_words c s)).reshape _ _)
    ((Memref.isWhole_whole cc0_scratch0).wordExact_slice rfl _ (k0_off3_wordsbf16 c r s))

/-- The wait for a send of the second phase to have left. -/
def sent2P (c : Dev nD) (s : Fin 2) (r : Fin 31) : Prog (TpuEff nD τ sig (Elt F) Λ₀ .tc) PUnit :=
  waitP (semAt cc0_scratch6 (semSend r s) (semSend_inb r s)) (agOwnV c s) (obV s)
    ((Memref.isWhole_whole cc0_scratch3).wordExact_slice rfl _ (k0_off11_wordsbf16 c s))
    ((Memref.isWhole_whole cc0_scratch2).wordExact_slice rfl _ (obOff_words s))

/-! ## The body -/

/-- The distances, in the order the body goes through them. -/
def rs : List (Fin 31) :=
  [0, 1, 2, 3, 4, 5, 6, 7, 8, 9, 10, 11, 12, 13, 14, 15, 16, 17, 18, 19, 20, 21, 22, 23, 24, 25, 26, 27, 28, 29, 30]

/-- A step for every distance, one after another. -/
def wave (P : Fin 31 → Prog (TpuEff nD τ sig (Elt F) Λ₀ .tc) PUnit) : List (Fin 31) → Prog (TpuEff nD τ sig (Elt F) Λ₀ .tc) PUnit
  | [] => .ret ⟨⟩
  | r :: l => P r >>= fun _ => wave P l

/-- The first phase: every other device told this one has started, the input rounded, the others'
    signals awaited, the pieces sent out, the own piece kept. -/
def phase1 (c : Dev nD) : Prog (TpuEff nD τ sig (Elt F) Λ₀ .tc) PUnit := do
  wave (signalP c) rs
  castP
  barWaitP
  wave (send1P c 0) rs
  wave (send1P c 1) rs
  ownP c

/-- The second phase, for one half: the pieces received, the half reduced and sent out. -/
def phase2 (c : Dev nD) (s : Fin 2) : Prog (TpuEff nD τ sig (Elt F) Λ₀ .tc) PUnit := do
  wave (recv1P c s) rs
  reduceP c s
  wave (send2P c s) rs

/-- The last phase: the reduced chunks received and put into the output, the sends awaited. -/
def phase3 (c : Dev nD) : Prog (TpuEff nD τ sig (Elt F) Λ₀ .tc) PUnit := do
  wave (gatherP c 0) rs
  wave (gatherP c 1) rs
  wave (sent1P c 0) rs
  wave (sent1P c 1) rs
  wave (sent2P c 0) rs
  wave (sent2P c 1) rs

/-- The body on one device. -/
def bodyP : Prog (TpuEff nD τ sig (Elt F) Λ₀ .tc) PUnit := do
  let c ← Prog.lift .deviceId
  phase1 c
  phase2 c 0
  phase2 c 1
  phase3 c

set_option maxRecDepth 100000 in
/-- The printed body is the sequence of steps. -/
theorem body_eq : cc0_body (F := F) xM (Memref.isWhole_whole _) outM (Memref.isWhole_whole _) xbM (Memref.isWhole_whole _)
    rsM (Memref.isWhole_whole _) obM (Memref.isWhole_whole _) agM (Memref.isWhole_whole _)
    cc0_scratch4 cc0_scratch5 cc0_scratch6 cc0_scratch7 = bodyP := by
  chain_rfl

end Cert.AllReduce
-- ==== Proof.Schedule.lean ====
/- The semaphores the devices meet on, what each transfer carries, and who owes what.

   Every device has a barrier semaphore, and for every other device and every half of a chunk four
   transfer semaphores: the sends and the receipts of the two phases. Each is used for one round. -/
module

public import proofs.«01_k».proof.Proof.Steps
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.Writes
public import Idealize.ShloMosaic.Lib.Pointwise.Index

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The bookkeeping of the rounds: a duty is named by a number below 31. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: arbitrary contents, every semaphore at zero. -/
def s₀ : MemSt nD τ sig (Elt F) := ⟨m, fun _ => 0, ρ⟩

/-! ## The ring of devices -/

/-- Seen from the device `r + 1` places further round, a device is `31 - r` places further round. -/
theorem peer_rev (c : Dev nD) (r : Fin 31) : peer (peer c r) r.rev = c := by revert c r; decide +kernel
theorem peer_ne (c : Dev nD) (r : Fin 31) : peer c r ≠ c := by revert c r; decide +kernel
theorem peer_inj (c : Dev nD) : Function.Injective (peer c) := by revert c; unfold Function.Injective; decide +kernel
theorem peer_surj (c k : Dev nD) (h : k ≠ c) : ∃ r, peer c r = k := by revert c k; decide +kernel

/-- A device and a distance, seen from the other end. -/
def turn : (Dev nD × Fin 31) ≃ (Dev nD × Fin 31) where
  toFun p := (peer p.1 p.2, p.2.rev)
  invFun p := (peer p.1 p.2, p.2.rev)
  left_inv p := Prod.ext (peer_rev p.1 p.2) (Fin.rev_rev p.2)
  right_inv p := Prod.ext (peer_rev p.1 p.2) (Fin.rev_rev p.2)

/-! ## The semaphores -/

/-- The four arrays of semaphores: first sends, first receipts, second sends, second receipts. -/
def arr : Fin 4 → DmaSems sig S32x2 := ![cc0_scratch4, cc0_scratch5, cc0_scratch6, cc0_scratch7]
theorem sem_inb (i : Fin 32) (s : Fin 2) (a : Fin 2) : (![i.val, s.val] : Fin 2 → Nat) a + S1x1.size a ≤ S32x2.size a := by
  revert i s a; decide +kernel
/-- The semaphore of an array at a device's number and a half. -/
def dsem (A : Fin 4) (i : Fin 32) (s : Fin 2) : DmaSem sig := semAt (arr A) ![i.val, s.val] (sem_inb i s)
theorem dsem_val (A : Fin 4) (i : Fin 32) (s : Fin 2) : (dsem A i s).val = 2 + 64 * A.val + 2 * i.val + s.val := by
  revert A i s; decide +kernel
theorem dsem_inj {A A' : Fin 4} {i i' : Fin 32} {s s' : Fin 2} (h : dsem A i s = dsem A' i' s') : A = A' ∧ i = i' ∧ s = s' := by
  have h' := congrArg Fin.val h
  rw [dsem_val, dsem_val] at h'
  have := A.isLt; have := A'.isLt; have := i.isLt; have := i'.isLt; have := s.isLt; have := s'.isLt
  refine ⟨Fin.ext ?_, Fin.ext ?_, Fin.ext ?_⟩ <;> omega
theorem semAt_congr (A : DmaSems sig S32x2) {off off' : Fin 2 → Nat} (e : off = off') (h h') : semAt A off h = semAt A off' h' := by
  subst e; rfl

/-- Which of a device's semaphores: the barrier's, or one of a transfer. -/
abbrev CK : Type := Option (Fin 4 × Fin 31 × Fin 2)
/-- The first index of a transfer's semaphore: sends are numbered by the distance, receipts by the sender. -/
def semIx (c : Dev nD) (A : Fin 4) (r : Fin 31) : Fin 32 := if A = 0 ∨ A = 2 then peer 0 r else peer c r
def csem (c : Dev nD) : CK → SemLoc sig
  | none => .reg barS
  | some (A, r, s) => .dma (dsem A (semIx c A r) s)
abbrev kcell (ck : Dev nD × CK) : GSem nD τ sig := ((ck.1 : Thread nD τ), csem ck.1 ck.2)

theorem semIx_inj (c : Dev nD) (A : Fin 4) : Function.Injective (semIx c A) := by
  intro r r' h
  unfold semIx at h
  split at h
  · exact peer_inj 0 h
  · exact peer_inj c h
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem c k = csem c k' := congrArg Prod.snd h
  rcases k with _ | ⟨A, r, s⟩ <;> rcases k' with _ | ⟨A', r', s'⟩
  · rfl
  · exact absurd h2 (fun h => by cases h)
  · exact absurd h2 (fun h => by cases h)
  · obtain ⟨rfl, hi, rfl⟩ := dsem_inj (SemLoc.dma.inj h2)
    rw [semIx_inj c A hi]

/-- The device and use of a semaphore, if it is one of these. -/
def cellIx : GSem nD τ sig → Option (Dev nD × CK) := Function.partialInv kcell
theorem cellIx_kcell (ck : Dev nD × CK) : cellIx (kcell ck) = some ck := Function.partialInv_left kcell_injective ck
theorem cellIx_none (g : GSem nD τ sig) (h : ∀ ck, kcell ck ≠ g) : cellIx g = none := by
  unfold cellIx Function.partialInv
  rw [dif_neg]; rintro ⟨ck, hk⟩; exact h ck hk

/-- What one half piece's transfer signals. -/
abbrev N : ℕ := (obV 0).view.dmaCredit
theorem N_pos : 0 < N := View.dmaCredit_pos _ (by decide)

theorem sem_send1 (c : Dev nD) (s : Fin 2) (r : Fin 31) :
    (SemLoc.dma (semAt cc0_scratch4 (semSend r s) (semSend_inb r s)) : SemLoc sig) = csem c (some (0, r, s)) :=
  congrArg SemLoc.dma (semAt_congr _ (semSend_eq r s) _ _)
theorem sem_send2 (c : Dev nD) (s : Fin 2) (r : Fin 31) :
    (SemLoc.dma (semAt cc0_scratch6 (semSend r s) (semSend_inb r s)) : SemLoc sig) = csem c (some (2, r, s)) :=
  congrArg SemLoc.dma (semAt_congr _ (semSend_eq r s) _ _)
theorem sem_recv1 (c : Dev nD) (s : Fin 2) (r : Fin 31) :
    (SemLoc.dma (semAt cc0_scratch5 (semPeer c r s) (semPeer_inb c r s)) : SemLoc sig) = csem c (some (1, r, s)) :=
  congrArg SemLoc.dma (semAt_congr _ (semPeer_eq c r s) _ _)
theorem sem_recv2 (c : Dev nD) (s : Fin 2) (r : Fin 31) :
    (SemLoc.dma (semAt cc0_scratch7 (semPeer c r s) (semPeer_inb c r s)) : SemLoc sig) = csem c (some (3, r, s)) :=
  congrArg SemLoc.dma (semAt_congr _ (semPeer_eq c r s) _ _)
/-- The semaphore a device's piece signals on the device further round is the one that device keeps for it. -/
theorem sem_own1 (c : Dev nD) (s : Fin 2) (r : Fin 31) :
    (SemLoc.dma (semAt cc0_scratch5 (semOwn c s) (semOwn_inb c s)) : SemLoc sig) = csem (peer c r) (some (1, r.rev, s)) := by
  refine congrArg SemLoc.dma (semAt_congr _ ?_ _ _)
  rw [semOwn_eq]; show _ = ![(peer (peer c r) r.rev).val, s.val]; rw [peer_rev]
theorem sem_own2 (c : Dev nD) (s : Fin 2) (r : Fin 31) :
    (SemLoc.dma (semAt cc0_scratch7 (semOwn c s) (semOwn_inb c s)) : SemLoc sig) = csem (peer c r) (some (3, r.rev, s)) := by
  refine congrArg SemLoc.dma (semAt_congr _ ?_ _ _)
  rw [semOwn_eq]; show _ = ![(peer (peer c r) r.rev).val, s.val]; rw [peer_rev]

/-! ## The contents -/

/-- A device's staged input. -/
def xstg (c : Dev nD) : Vec F S1024x512 .f32 :=
  (win0_0.blk (0 : Fin 1)).view.read (Elt F) ((s₀ m ρ).mem ((c : Thread nD τ).loc main_arg0))

/-- It rounded into the wire's format. -/
def XB (c : Dev nD) : Vec F S1024x512 .bf16 := k0_pay1 (xstg m ρ c)

theorem lt_rows (c : Fin 32) (i : Fin 32) : 32 * c.val + i.val < 1024 := by omega
theorem lt_half (s : Fin 2) (i : Fin 16) : 16 * s.val + i.val < 32 := by omega

/-- The received pieces: from every device, the rows of the own chunk. -/
def RS (c : Dev nD) : Vec F S32x32x512 .bf16 := fun i =>
  XB m ρ (i 0) (ix2 (n0 := 1024) (n1 := 512) ⟨32 * c.val + (i 1).val, lt_rows c (i 1)⟩ (i 2))
/-- One half of them. -/
def halfRS (c : Dev nD) (s : Fin 2) : Vec F S32x16x512 .bf16 := fun j =>
  RS m ρ c (ix3 (n0 := 32) (n1 := 32) (n2 := 512) (j 0) ⟨16 * s.val + (j 1).val, lt_half s (j 1)⟩ (j 2))
/-- A reduced half chunk, and it rounded into the wire's format. -/
def RED (c : Dev nD) (s : Fin 2) : Vec F S16x512 .f32 := k0_pay3 (halfRS m ρ c s)
def OBh (c : Dev nD) (s : Fin 2) : Vec F S16x512 .bf16 := k0_pay4 (halfRS m ρ c s)

/-- The device, the half and the place in the half of a row of the whole array. -/
def rowDev (i : Fin 1024) : Fin 32 := ⟨i.val / 32, by omega⟩
def rowHalf (i : Fin 1024) : Fin 2 := ⟨i.val / 16 % 2, by omega⟩
def rowIn (i : Fin 1024) : Fin 16 := ⟨i.val % 16, by omega⟩

/-- The reduced chunk in the wire's format. -/
def OB (c : Dev nD) : Vec F S32x512 .bf16 := fun i =>
  OBh m ρ c ⟨(i 0).val / 16, by have h : (i 0).val < 32 := (i 0).isLt; omega⟩
    (ix2 (n0 := 16) (n1 := 512) ⟨(i 0).val % 16, Nat.mod_lt _ (by decide)⟩ (i 1))
/-- The gathered chunks of all devices. -/
def AG : Vec F S1024x512 .bf16 := fun i =>
  OBh m ρ (rowDev (i 0)) (rowHalf (i 0)) (ix2 (n0 := 16) (n1 := 512) (rowIn (i 0)) (i 1))
/-- A device's result: its own chunk in full precision, the others' as received. -/
def OUT (c : Dev nD) : Vec F S1024x512 .f32 := fun i =>
  if rowDev (i 0) = c then RED m ρ c (rowHalf (i 0)) (ix2 (n0 := 16) (n1 := 512) (rowIn (i 0)) (i 1))
  else k0_pay7 (OBh m ρ (rowDev (i 0)) (rowHalf (i 0))) (ix2 (n0 := 16) (n1 := 512) (rowIn (i 0)) (i 1))

/-! ## The blocks -/

/-- The rows of one half chunk. -/
def rowSet (p : Fin 32 × Fin 2) : Finset S1024x512.Idx := Finset.univ.filter fun i => (i 0).val / 16 = 2 * p.1.val + p.2.val
/-- A half piece of a sender among the received ones. -/
def rsSet (p : Fin 32 × Fin 2) : Finset S32x32x512.Idx := Finset.univ.filter fun i => (i 0).val = p.1.val ∧ (i 1).val / 16 = p.2.val
/-- A half of the reduced chunk. -/
def obSet (s : Fin 2) : Finset S32x512.Idx := Finset.univ.filter fun i => (i 0).val / 16 = s.val

theorem rowSet_disj (p q : Fin 32 × Fin 2) (h : p ≠ q) : Disjoint (rowSet p) (rowSet q) := by
  rw [Finset.disjoint_left]; intro i hi hj
  have hi := (Finset.mem_filter.mp hi).2; have hj := (Finset.mem_filter.mp hj).2
  apply h
  have := p.2.isLt; have := q.2.isLt
  refine Prod.ext (Fin.ext ?_) (Fin.ext ?_) <;> omega
theorem rowSet_cover : Finset.univ.biUnion rowSet = Finset.univ := by
  ext i; simp only [Finset.mem_biUnion, Finset.mem_univ, true_and, iff_true]
  have h : (i 0).val < 1024 := (i 0).isLt
  refine ⟨(⟨(i 0).val / 32, by omega⟩, ⟨(i 0).val / 16 % 2, by omega⟩), Finset.mem_filter.mpr ⟨Finset.mem_univ _, ?_⟩⟩
  show (i 0).val / 16 = 2 * ((i 0).val / 32) + (i 0).val / 16 % 2
  omega
theorem rsSet_disj (p q : Fin 32 × Fin 2) (h : p ≠ q) : Disjoint (rsSet p) (rsSet q) := by
  rw [Finset.disjoint_left]; intro i hi hj
  have hi := (Finset.mem_filter.mp hi).2; have hj := (Finset.mem_filter.mp hj).2
  exact h (Prod.ext (Fin.ext (hi.1.symm.trans hj.1)) (Fin.ext (hi.2.symm.trans hj.2)))
theorem rsSet_cover : Finset.univ.biUnion rsSet = Finset.univ := by
  ext i; simp only [Finset.mem_biUnion, Finset.mem_univ, true_and, iff_true]
  have h : (i 1).val < 32 := (i 1).isLt
  exact ⟨(i 0, ⟨(i 1).val / 16, by omega⟩), Finset.mem_filter.mpr ⟨Finset.mem_univ _, rfl, rfl⟩⟩
theorem obSet_disj (s t : Fin 2) (h : s ≠ t) : Disjoint (obSet s) (obSet t) := by
  rw [Finset.disjoint_left]; intro i hi hj
  exact h (Fin.ext ((Finset.mem_filter.mp hi).2.symm.trans (Finset.mem_filter.mp hj).2))
theorem obSet_cover : Finset.univ.biUnion obSet = Finset.univ := by
  ext i; simp only [Finset.mem_biUnion, Finset.mem_univ, true_and, iff_true]
  have h : (i 0).val < 32 := (i 0).isLt
  exact ⟨⟨(i 0).val / 16, by omega⟩, Finset.mem_filter.mpr ⟨Finset.mem_univ _, rfl⟩⟩

/-- Holding a block of a buffer of a device. -/
abbrev xbB (c : Dev nD) (p : Fin 32 × Fin 2) (f : Vec F S1024x512 .bf16) : sProp 𝕄 := ((c : Thread nD τ).loc cc0_scratch0) ↦[rowSet p]{fullShare} f
abbrev rsB (c : Dev nD) (p : Fin 32 × Fin 2) (f : Vec F S32x32x512 .bf16) : sProp 𝕄 := ((c : Thread nD τ).loc cc0_scratch1) ↦[rsSet p]{fullShare} f
abbrev obB (c : Dev nD) (s : Fin 2) (q : PosShare TreeShare) (f : Vec F S32x512 .bf16) : sProp 𝕄 := ((c : Thread nD τ).loc cc0_scratch2) ↦[obSet s]{q} f
abbrev agB (c : Dev nD) (p : Fin 32 × Fin 2) (f : Vec F S1024x512 .bf16) : sProp 𝕄 := ((c : Thread nD τ).loc cc0_scratch3) ↦[rowSet p]{fullShare} f
abbrev outB (c : Dev nD) (p : Fin 32 × Fin 2) (f : Vec F S1024x512 .f32) : sProp 𝕄 := ((c : Thread nD τ).loc cc0_stg1_0) ↦[rowSet p]{fullShare} f

/-- The share of a reduced half chunk that its send over one distance holds. -/
abbrev obShare (r : Fin 31) : PosShare TreeShare := Transfers.dealOf fullShare Finset.univ r

/-- What device `k` hands device `c` with its signal: the places `c`'s half pieces will land in. -/
def places (k c : Dev nD) : sProp 𝕄 :=
  iprop(((∃ f, rsB k (c, 0) f) ∗ (∃ f, rsB k (c, 1) f)) ∗ (∃ f, agB k (c, 0) f) ∗ (∃ f, agB k (c, 1) f))

/-- What a duty of a semaphore hands over. -/
def pay (ck : Dev nD × CK) (d : Fin 31) : sProp 𝕄 :=
  match ck with
  | (c, none) => places (peer c d) c
  | (c, some (0, r, s)) => xbB c (peer c r, s) (XB m ρ c)
  | (c, some (1, r, s)) => rsB c (peer c r, s) (RS m ρ c)
  | (c, some (2, r, s)) => obB c s (obShare r) (OB m ρ c)
  | (c, some (3, r, s)) => agB c (peer c r, s) (AG m ρ)

instance pay_storable (ck : Dev nD × CK) (d : Fin 31) : BI.Storable (upEmb : UEmb _ 𝕄) (pay (F := F) m ρ ck d) := by
  unfold pay places
  split <;> infer_instance

/-- The duties of a semaphore's round. -/
def dutiesOf : CK → Finset (Fin 31)
  | none => Finset.univ
  | some _ => {0}
/-- What one duty adds. -/
def amountOf : CK → ℕ
  | none => 1
  | some _ => N

/-- The schedule: one round; a barrier is signalled once by every other device, a transfer's semaphore
    once by its transfer. -/
def Rd : Rounds.Schedule (GSem nD τ sig) (Fin 31) 𝕄 where
  duties g r := if r = 0 then (match cellIx g with | some ck => dutiesOf ck.2 | none => ∅) else ∅
  unitless _ := False
  amount g _ _ := match cellIx g with | some ck => amountOf ck.2 | none => 1
  payload g _ d := match cellIx g with | some ck => pay m ρ ck d | none => iprop(emp)
  amount_pos g _ _ _ := by
    split
    · rename_i ck _; obtain ⟨c, k⟩ := ck; cases k
      · exact Nat.one_pos
      · exact N_pos
    · exact Nat.one_pos

instance Rd_payload_storable (g : GSem nD τ sig) (r : ℕ) (d : Fin 31) :
    BI.Storable (upEmb : UEmb _ 𝕄) ((Rd (F := F) m ρ).payload g r d) := by
  show BI.Storable upEmb (match cellIx g with | some ck => pay m ρ ck d | none => iprop(emp))
  split <;> infer_instance

theorem duties_kcell (ck : Dev nD × CK) : (Rd (F := F) m ρ).duties (kcell ck) 0 = dutiesOf ck.2 := by
  dsimp only [Rd]; rw [if_pos rfl, cellIx_kcell]
theorem amount_kcell (ck : Dev nD × CK) (d : Fin 31) : (Rd (F := F) m ρ).amount (kcell ck) 0 d = amountOf ck.2 := by
  dsimp only [Rd]; rw [cellIx_kcell]
theorem payload_kcell (ck : Dev nD × CK) (d : Fin 31) : (Rd (F := F) m ρ).payload (kcell ck) 0 d = pay m ρ ck d := by
  dsimp only [Rd]; rw [cellIx_kcell]
theorem duties_later (g : GSem nD τ sig) : ∀ r, 1 ≤ r → (Rd (F := F) m ρ).duties g r = ∅ :=
  fun r hr => by dsimp only [Rd]; rw [if_neg fun h => by omega]
theorem expect_bar (c : Dev nD) : (Rd (F := F) m ρ).expect (kcell (c, none)) 0 = 31 := by
  unfold Schedule.expect Schedule.amountOf
  rw [duties_kcell, Finset.sum_congr rfl fun d _ => amount_kcell m ρ (c, none) d]
  show ∑ _d : Fin 31, 1 = 31
  rw [Finset.sum_const, Finset.card_univ, Fintype.card_fin, smul_eq_mul]
theorem expect_dma (c : Dev nD) (a : Fin 4 × Fin 31 × Fin 2) : (Rd (F := F) m ρ).expect (kcell (c, some a)) 0 = N := by
  unfold Schedule.expect Schedule.amountOf
  rw [duties_kcell]; show ∑ d ∈ {0}, _ = N
  rw [Finset.sum_singleton, amount_kcell]; rfl

/-- All that comes with a barrier's wait, and with a transfer's. -/
theorem rest_bar (c : Dev nD) :
    bigSep ((Rd (F := F) m ρ).duties (kcell (c, none)) 0 \ ∅) (fun d => (Rd (F := F) m ρ).payload (kcell (c, none)) 0 d)
      = bigSep Finset.univ fun r => places (F := F) (peer c r) c := by
  rw [Finset.sdiff_empty, duties_kcell]
  exact bigSep_congr fun d _ => payload_kcell m ρ (c, none) d
theorem rest_dma (c : Dev nD) (a : Fin 4 × Fin 31 × Fin 2) :
    bigSep ((Rd (F := F) m ρ).duties (kcell (c, some a)) 0 \ ∅) (fun d => (Rd (F := F) m ρ).payload (kcell (c, some a)) 0 d)
      = pay m ρ (c, some a) 0 := by
  rw [Finset.sdiff_empty, duties_kcell]
  show bigSep {0} _ = _
  rw [bigSep_singleton, payload_kcell]

/-! ## What each device owes, and the order of the waits -/

/-- A device's signals to the others' barriers, and its half pieces to the others, over some distances. -/
def oweBar (c : Dev nD) (s : Finset (Fin 31)) : CellTallies nD τ sig Unit := ∑ r ∈ s, tallyAt (kcell (peer c r, none)) () 1
def oweDma (c : Dev nD) (A : Fin 4) (h : Fin 2) (s : Finset (Fin 31)) : CellTallies nD τ sig Unit :=
  ∑ r ∈ s, tallyAt (kcell (peer c r, some (A, r.rev, h))) () N
/-- What is owed after the barrier's signals; and at the start. -/
def owe2 (c : Dev nD) : CellTallies nD τ sig Unit := oweDma c 3 1 Finset.univ + oweDma c 3 0 Finset.univ
def owe1 (c : Dev nD) : CellTallies nD τ sig Unit := owe2 c + oweDma c 1 1 Finset.univ + oweDma c 1 0 Finset.univ
def O₀ (c : Dev nD) : CellTallies nD τ sig Unit := owe1 c + oweBar c Finset.univ

def L (g : GSem nD τ sig) : Finset Unit := if g.1.2 = .tc then {()} else ∅
/-- The level of a use: the barrier below the first receipts, those below the second. -/
def lvOf : CK → ℕ
  | none => 1
  | some (A, _, _) => if A = 1 then 2 else if A = 3 then 3 else 0
def lv (g : GSem nD τ sig) (_ : Unit) : ℕ := match cellIx g with | some ck => lvOf ck.2 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CK) (u : Unit) : lv (kcell ck) u = lvOf ck.2 := by unfold lv; rw [cellIx_kcell]

/-- Everything owed is owed to a semaphore of these above a level. -/
def Above (n : ℕ) (O : CellTallies nD τ sig Unit) : Prop := ∀ g u, 0 < O g u → ∃ ck, g = kcell ck ∧ n < lvOf ck.2

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.zero (n : ℕ) : Above n 0 := fun g u hg => absurd hg (Nat.lt_irrefl 0)
theorem Above.sum {n : ℕ} {ι : Type} (s : Finset ι) (O : ι → CellTallies nD τ sig Unit) (h : ∀ i ∈ s, Above n (O i)) : Above n (∑ i ∈ s, O i) :=
  Finset.sum_induction O (Above n) (fun _ _ => Above.add) (Above.zero n) h
theorem Above.tally {n k : ℕ} (ck : Dev nD × CK) (h : n < lvOf ck.2) : Above n (tallyAt (kcell ck) () k) := by
  intro g u hg
  rw [tallyAt_apply] at hg
  by_cases h' : g = kcell ck ∧ u = ()
  · exact ⟨ck, h'.1, h⟩
  · rw [if_neg h'] at hg; exact absurd hg (Nat.lt_irrefl 0)
theorem above_bar (c : Dev nD) (s : Finset (Fin 31)) : Above 0 (oweBar c s) := Above.sum _ _ fun r _ => Above.tally _ Nat.zero_lt_one
theorem above_dma1 (c : Dev nD) (h : Fin 2) (s : Finset (Fin 31)) : Above 1 (oweDma c 1 h s) := Above.sum _ _ fun r _ => Above.tally _ (Nat.lt_succ_self _)
theorem above_dma3 (c : Dev nD) (h : Fin 2) (s : Finset (Fin 31)) : Above 2 (oweDma c 3 h s) := Above.sum _ _ fun r _ => Above.tally _ (Nat.lt_succ_self _)
theorem Above.mono {n n' : ℕ} {O : CellTallies nD τ sig Unit} (hn : n' ≤ n) (h : Above n O) : Above n' O := fun g u hg => by
  obtain ⟨ck, h1, h2⟩ := h g u hg; exact ⟨ck, h1, hn.trans_lt h2⟩
theorem above_owe2 (c : Dev nD) : Above 2 (owe2 c) := (above_dma3 c 1 _).add (above_dma3 c 0 _)
theorem above_owe1 (c : Dev nD) : Above 1 (owe1 c) := (((above_owe2 c).mono (by decide)).add (above_dma1 c 1 _)).add (above_dma1 c 0 _)
theorem above_O₀ (c : Dev nD) : Above 0 (O₀ c) := ((above_owe1 c).mono (by decide)).add (above_bar c _)

/-- A device may wait on a semaphore at a level all it owes is above. -/
theorem mayWait_above (c : Dev nD) (sm : SemLoc sig) (n : ℕ) (O : CellTallies nD τ sig Unit) (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨ck, rfl, -⟩ := hO g u hg; exact Finset.mem_singleton_self _)
    (fun p hp => by rw [Finset.mem_singleton.mp hp]; exact hn)
    (fun g u hg => by obtain ⟨ck, rfl, h⟩ := hO g u hg; rw [lv_kcell]; exact h)

end Cert.AllReduce
-- ==== Proof.Views.lean ====
/- What the body's loads, stores and transfers read and write, as blocks of rows. -/
module

public import proofs.«01_k».proof.Proof.Schedule
public import Idealize.ShloMosaic.Lib.ViewIndex

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents written through a view -/

/-- What is written through a view is there what the view reads of it. -/
theorem write_at {κ : Kind} {sp : Space} {s : Shape} {e : EltTy} (v : View sig κ sp s e) (fd G : v.ty.Contents (Elt F)) (w : s.Idx → Elt F e)
    (h : ∀ x, v.read (Elt F) G x = w x) : ∀ i ∈ v.set, v.write (Elt F) fd w Finset.univ i = G i := by
  intro i hi
  obtain ⟨x, -, rfl⟩ := Finset.mem_map.mp hi
  exact View.eq_of_read_eq ((View.read_write_of_mem fd w (Finset.mem_univ x)).trans (h x).symm)

/-- Holding elements a view wrote is holding them at any contents the view reads the payload of. -/
theorem pts_write {κ : Kind} {sp : Space} {s : Shape} {e : EltTy} (v : View sig κ sp s e) {c : Thread nD τ} (hc : c.2.kind = κ)
    (S : Finset v.ty.Idx) (hS : S = v.set) (fd G : v.ty.Contents (Elt F)) (w : s.Idx → Elt F e) (h : ∀ x, v.read (Elt F) G x = w x) :
    ∀ i ∈ S, v.write (Elt F) fd w Finset.univ i = G i := by subst hS; exact write_at v fd G w h

/-! ## The blocks the rectangles name -/

theorem lt_row (p : Fin 32 × Fin 2) (i : Fin 16) : 32 * p.1.val + 16 * p.2.val + i.val < 1024 := by
  have := p.2.isLt; omega

/-- The rectangle of a half chunk's rows. -/
theorem rows_set {off : Fin 2 → Nat} (p : Fin 32 × Fin 2) (e : off = ![32 * p.1.val + 16 * p.2.val, 0]) (inb) :
    (Rect.unit (s := S1024x512) off S16x512.size inb).set = rowSet p := by
  subst e; ext i
  rw [Rect.mem_set_unit, rowSet, Finset.mem_filter]
  have h1 : (i 1).val < 512 := (i 1).isLt
  constructor
  · intro h
    have := h 0
    have h0 : 32 * p.1.val + 16 * p.2.val ≤ (i 0).val ∧ (i 0).val < 32 * p.1.val + 16 * p.2.val + 16 := h 0
    exact ⟨Finset.mem_univ _, by omega⟩
  · rintro ⟨-, h⟩ a
    match a with
    | ⟨0, _⟩ => show 32 * p.1.val + 16 * p.2.val ≤ (i 0).val ∧ (i 0).val < 32 * p.1.val + 16 * p.2.val + 16; omega
    | ⟨1, _⟩ => show 0 ≤ (i 1).val ∧ (i 1).val < 0 + 512; omega
theorem rows_emb {off : Fin 2 → Nat} (p : Fin 32 × Fin 2) (e : off = ![32 * p.1.val + 16 * p.2.val, 0]) (inb) (x : S16x512.Idx) :
    (Rect.unit (s := S1024x512) off S16x512.size inb).emb x
      = ix2 (n0 := 1024) (n1 := 512) ⟨32 * p.1.val + 16 * p.2.val + (x 0).val, lt_row p (x 0)⟩ (x 1) := by
  subst e; funext a
  match a with
  | ⟨0, _⟩ => exact Fin.ext (by show _ + 1 * (x 0).val = _; rw [Nat.one_mul]; rfl)
  | ⟨1, _⟩ => exact Fin.ext (by show 0 + 1 * (x 1).val = (x 1).val; omega)

/-- The rectangle of a half piece among the received ones. -/
theorem rs_set {off : Fin 3 → Nat} (p : Fin 32 × Fin 2) (e : off = ![p.1.val, 16 * p.2.val, 0]) (inb) :
    (Rect.unit (s := S32x32x512) off S1x16x512.size inb).set = rsSet p := by
  subst e; ext i
  rw [Rect.mem_set_unit, rsSet, Finset.mem_filter]
  have h2 : (i 2).val < 512 := (i 2).isLt
  constructor
  · intro h
    have h0 : p.1.val ≤ (i 0).val ∧ (i 0).val < p.1.val + 1 := h 0
    have h1 : 16 * p.2.val ≤ (i 1).val ∧ (i 1).val < 16 * p.2.val + 16 := h 1
    exact ⟨Finset.mem_univ _, by omega, by omega⟩
  · rintro ⟨-, h0, h1⟩ a
    match a with
    | ⟨0, _⟩ => show p.1.val ≤ (i 0).val ∧ (i 0).val < p.1.val + 1; omega
    | ⟨1, _⟩ => show 16 * p.2.val ≤ (i 1).val ∧ (i 1).val < 16 * p.2.val + 16; omega
    | ⟨2, _⟩ => show 0 ≤ (i 2).val ∧ (i 2).val < 0 + 512; omega
theorem rs_emb {off : Fin 3 → Nat} (p : Fin 32 × Fin 2) (e : off = ![p.1.val, 16 * p.2.val, 0]) (inb) (x : S16x512.Idx) (h : S16x512.numel = S1x16x512.numel) :
    (Rect.unit (s := S32x32x512) off S1x16x512.size inb).emb (Shape.reshapeEquiv (s := S1x16x512) (s' := S16x512) h x)
      = ix3 (n0 := 32) (n1 := 32) (n2 := 512) p.1 ⟨16 * p.2.val + (x 0).val, lt_half p.2 (x 0)⟩ (x 1) := by
  subst e
  have hx : Shape.reshapeEquiv (s := S1x16x512) (s' := S16x512) h x = ix3 (n0 := 1) (n1 := 16) (n2 := 512) 0 (x 0) (x 1) :=
    (Shape.reshapeEquiv_cons_one (d := ![16, 512]) h x).trans (by funext a; match a with | ⟨0, _⟩ => rfl | ⟨1, _⟩ => rfl | ⟨2, _⟩ => rfl)
  rw [hx]; funext a
  match a with
  | ⟨0, _⟩ => exact Fin.ext (by show p.1.val + 1 * 0 = p.1.val; omega)
  | ⟨1, _⟩ => exact Fin.ext (by show 16 * p.2.val + 1 * (x 0).val = _; rw [Nat.one_mul]; rfl)
  | ⟨2, _⟩ => exact Fin.ext (by show 0 + 1 * (x 1).val = (x 1).val; omega)

/-- The rectangle of a half of the reduced chunk. -/
theorem ob_set (s : Fin 2) : (Rect.unit (s := S32x512) (obOff s) S16x512.size (obOff_inb s)).set = obSet s := by
  ext i
  rw [Rect.mem_set_unit, obSet, Finset.mem_filter]
  have h1 : (i 1).val < 512 := (i 1).isLt
  constructor
  · intro h
    have h0 : 16 * s.val ≤ (i 0).val ∧ (i 0).val < 16 * s.val + 16 := h 0
    exact ⟨Finset.mem_univ _, by omega⟩
  · rintro ⟨-, h⟩ a
    match a with
    | ⟨0, _⟩ => show 16 * s.val ≤ (i 0).val ∧ (i 0).val < 16 * s.val + 16; omega
    | ⟨1, _⟩ => show 0 ≤ (i 1).val ∧ (i 1).val < 0 + 512; omega
theorem ob_emb (s : Fin 2) (x : S16x512.Idx) :
    (Rect.unit (s := S32x512) (obOff s) S16x512.size (obOff_inb s)).emb x
      = ix2 (n0 := 32) (n1 := 512) ⟨16 * s.val + (x 0).val, lt_half s (x 0)⟩ (x 1) := by
  funext a
  match a with
  | ⟨0, _⟩ => exact Fin.ext (by show 16 * s.val + 1 * (x 0).val = _; rw [Nat.one_mul]; rfl)
  | ⟨1, _⟩ => exact Fin.ext (by show 0 + 1 * (x 1).val = (x 1).val; omega)

/-! ## The offsets -/

theorem rowPeer_eq (c : Dev nD) (r : Fin 31) (s : Fin 2) : rowPeer c r s = ![32 * (peer c r).val + 16 * s.val, 0] := k0_off3_eq c r s
theorem rowPeer'_eq (c : Dev nD) (r : Fin 31) (s : Fin 2) : rowPeer' c r s = ![32 * (peer c r).val + 16 * s.val, 0] := k0_off14_eq c r s
theorem rowOwn_eq (c : Dev nD) (s : Fin 2) : rowOwn c s = ![32 * c.val + 16 * s.val, 0] := k0_off11_eq c s
theorem rowOwn'_eq (c : Dev nD) (s : Fin 2) : rowOwn' c s = ![32 * c.val + 16 * s.val, 0] := k0_off10_eq c s

theorem xbV_set (c : Dev nD) (r : Fin 31) (s : Fin 2) : (xbV c r s).view.set = rowSet (peer c r, s) :=
  (View.set_slice_whole _ _).trans (rows_set (peer c r, s) (rowPeer_eq c r s) _)
theorem agPeerV_set (c : Dev nD) (r : Fin 31) (s : Fin 2) : (agPeerV c r s).view.set = rowSet (peer c r, s) :=
  (View.set_slice_whole _ _).trans (rows_set (peer c r, s) (rowPeer_eq c r s) _)
theorem agOwnV_set (c : Dev nD) (s : Fin 2) : (agOwnV c s).view.set = rowSet (c, s) :=
  (View.set_slice_whole _ _).trans (rows_set (c, s) (rowOwn_eq c s) _)
theorem obV_set (s : Fin 2) : (obV s).view.set = obSet s := (View.set_slice_whole _ _).trans (ob_set s)
theorem rsOwnV_set (c : Dev nD) (s : Fin 2) : (rsOwnV c s).view.set = rsSet (c, s) :=
  (View.set_reshape _ _).trans ((View.set_slice_whole _ _).trans (rs_set (c, s) (rsOwn_eq c s) _))

/-! ## The transfers' contents -/

/-- A half piece lands as its sender's entry among the receiver's pieces. -/
theorem land1 (c : Dev nD) (r : Fin 31) (s : Fin 2) (x : S16x512.Idx) :
    (rsOwnV c s).view.read (Elt F) (RS m ρ (peer c r)) x = (xbV c r s).view.read (Elt F) (XB m ρ c) x := by
  show RS m ρ (peer c r) ((Rect.unit (s := S32x32x512) (rsOwn c s) S1x16x512.size (rsOwn_inb c s)).emb
      (Shape.reshapeEquiv (s := S1x16x512) (s' := S16x512) _ x))
    = XB m ρ c ((Rect.unit (s := S1024x512) (rowPeer c r s) S16x512.size (k0_off3_inb c r s)).emb x)
  rw [rs_emb (c, s) (rsOwn_eq c s), rows_emb (peer c r, s) (rowPeer_eq c r s)]
  show XB m ρ c (ix2 _ _) = XB m ρ c (ix2 _ _)
  congr 2
  exact Fin.ext (Nat.add_assoc _ _ _).symm

/-- The division of a row of a half chunk. -/
theorem rowDev_mk (p : Fin 32 × Fin 2) (i : Fin 16) : rowDev ⟨32 * p.1.val + 16 * p.2.val + i.val, lt_row p i⟩ = p.1 :=
  Fin.ext (by have := p.2.isLt; show (32 * p.1.val + 16 * p.2.val + i.val) / 32 = p.1.val; omega)
theorem rowHalf_mk (p : Fin 32 × Fin 2) (i : Fin 16) : rowHalf ⟨32 * p.1.val + 16 * p.2.val + i.val, lt_row p i⟩ = p.2 :=
  Fin.ext (by have := p.2.isLt; show (32 * p.1.val + 16 * p.2.val + i.val) / 16 % 2 = p.2.val; omega)
theorem rowIn_mk (p : Fin 32 × Fin 2) (i : Fin 16) : rowIn ⟨32 * p.1.val + 16 * p.2.val + i.val, lt_row p i⟩ = i :=
  Fin.ext (by have := p.2.isLt; show (32 * p.1.val + 16 * p.2.val + i.val) % 16 = i.val; omega)

theorem AG_at (p : Fin 32 × Fin 2) (a : Fin 16) (b : Fin 512) :
    AG m ρ (ix2 (n0 := 1024) (n1 := 512) ⟨32 * p.1.val + 16 * p.2.val + a.val, lt_row p a⟩ b) = OBh m ρ p.1 p.2 (ix2 (n0 := 16) (n1 := 512) a b) := by
  show OBh m ρ (rowDev ⟨32 * p.1.val + 16 * p.2.val + a.val, lt_row p a⟩) (rowHalf ⟨32 * p.1.val + 16 * p.2.val + a.val, lt_row p a⟩)
    (ix2 (n0 := 16) (n1 := 512) (rowIn ⟨32 * p.1.val + 16 * p.2.val + a.val, lt_row p a⟩) b) = _
  rw [rowDev_mk, rowHalf_mk, rowIn_mk]
theorem AG_row (p : Fin 32 × Fin 2) (x : S16x512.Idx) :
    AG m ρ (ix2 (n0 := 1024) (n1 := 512) ⟨32 * p.1.val + 16 * p.2.val + (x 0).val, lt_row p (x 0)⟩ (x 1)) = OBh m ρ p.1 p.2 x := by
  exact (AG_at m ρ p (x 0) (x 1)).trans (congrArg _ (ix2_eta x))
theorem OB_row (c : Dev nD) (s : Fin 2) (x : S16x512.Idx) :
    OB m ρ c (ix2 (n0 := 32) (n1 := 512) ⟨16 * s.val + (x 0).val, lt_half s (x 0)⟩ (x 1)) = OBh m ρ c s x := by
  have h0 : (x 0).val < 16 := (x 0).isLt
  unfold OB
  have e1 : (⟨(16 * s.val + (x 0).val) / 16, by omega⟩ : Fin 2) = s := Fin.ext (by show (16 * s.val + (x 0).val) / 16 = s.val; omega)
  have e2 : (⟨(16 * s.val + (x 0).val) % 16, Nat.mod_lt _ (by decide)⟩ : Fin 16) = x 0 := Fin.ext (by show (16 * s.val + (x 0).val) % 16 = (x 0).val; omega)
  show OBh m ρ c ⟨(16 * s.val + (x 0).val) / 16, _⟩ (ix2 (n0 := 16) (n1 := 512) ⟨(16 * s.val + (x 0).val) % 16, _⟩ (x 1)) = _
  rw [e1, e2]
  exact congrArg _ (ix2_eta x)

/-- A reduced half chunk lands as the sender's rows of the gathered chunks. -/
theorem land2 (c : Dev nD) (s : Fin 2) (x : S16x512.Idx) :
    (agOwnV c s).view.read (Elt F) (AG m ρ) x = (obV s).view.read (Elt F) (OB m ρ c) x := by
  show AG m ρ ((Rect.unit (s := S1024x512) (rowOwn c s) S16x512.size (k0_off11_inb c s)).emb x)
    = OB m ρ c ((Rect.unit (s := S32x512) (obOff s) S16x512.size (obOff_inb s)).emb x)
  rw [rows_emb (c, s) (rowOwn_eq c s), ob_emb]
  exact (AG_row m ρ (c, s) x).trans (OB_row m ρ c s x).symm

/-! ## The loads and stores -/

abbrev rFull : Rect S1024x512 := Rect.unit (s := S1024x512) ![0, 0] S1024x512.size inb_S1024x512_S1024x512_0_0
theorem hz : (![0, 0] : Fin 2 → Nat) = fun _ => 0 := funext fun a => by fin_cases a <;> rfl
theorem read_x (f : Vec F S1024x512 .f32) : xM.view.readAt (Elt F) rFull.toLoadRect f = f :=
  Memref.readAt_unit_zero (Elt F) cc0_stg0_0 hz _ f
theorem write_xb (f w : Vec F S1024x512 .bf16) :
    (xbM.access rFull : View sig .tc _ _ _).write (Elt F) f w Finset.univ = w :=
  Memref.write_access_unit_zero_univ (Elt F) cc0_scratch0 hz _ f w

/-- The own rows of the rounded input, and the place of the own piece among the received ones. -/
abbrev rOwn (c : Dev nD) : Rect S1024x512 := Rect.unit (s := S1024x512) (k0_off6 c) S32x512.size (k0_off6_inb c)
abbrev rPiece (c : Dev nD) : Rect S32x32x512 := Rect.unit (s := S32x32x512) (k0_off7 c) S1x32x512.size (k0_off7_inb c)

theorem off_inb {n : Nat} {off off' : Fin n → Nat} {sz Sz : Fin n → Nat} (e : off = off') (h : ∀ a, off a + sz a ≤ Sz a) : ∀ a, off' a + sz a ≤ Sz a := e ▸ h

theorem rOwn_set (c : Dev nD) : (rOwn c).set = rowSet (c, 0) ∪ rowSet (c, 1) := by
  ext i
  rw [Rect.mem_set_unit, k0_off6_eq, Finset.mem_union, rowSet, rowSet, Finset.mem_filter, Finset.mem_filter]
  have h1 : (i 1).val < 512 := (i 1).isLt
  show _ ↔ (_ ∧ (i 0).val / 16 = 2 * c.val + 0) ∨ (_ ∧ (i 0).val / 16 = 2 * c.val + 1)
  constructor
  · intro h
    have h0 : 32 * c.val ≤ (i 0).val ∧ (i 0).val < 32 * c.val + 32 := h 0
    rcases Nat.lt_or_ge (i 0).val (32 * c.val + 16) with h' | h'
    · exact .inl ⟨Finset.mem_univ _, by omega⟩
    · exact .inr ⟨Finset.mem_univ _, by omega⟩
  · intro h
    have h : (i 0).val / 16 = 2 * c.val + 0 ∨ (i 0).val / 16 = 2 * c.val + 1 := h.imp And.right And.right
    intro a
    match a with
    | ⟨0, _⟩ => show 32 * c.val ≤ (i 0).val ∧ (i 0).val < 32 * c.val + 32; omega
    | ⟨1, _⟩ => show 0 ≤ (i 1).val ∧ (i 1).val < 0 + 512; omega
theorem rPiece_set (c : Dev nD) : (rPiece c).set = rsSet (c, 0) ∪ rsSet (c, 1) := by
  ext i
  rw [Rect.mem_set_unit, k0_off7_eq, Finset.mem_union, rsSet, rsSet, Finset.mem_filter, Finset.mem_filter]
  have h1 : (i 1).val < 32 := (i 1).isLt
  have h2 : (i 2).val < 512 := (i 2).isLt
  show _ ↔ (_ ∧ (i 0).val = c.val ∧ (i 1).val / 16 = 0) ∨ (_ ∧ (i 0).val = c.val ∧ (i 1).val / 16 = 1)
  constructor
  · intro h
    have h0 : c.val ≤ (i 0).val ∧ (i 0).val < c.val + 1 := h 0
    rcases Nat.lt_or_ge (i 1).val 16 with h' | h'
    · exact .inl ⟨Finset.mem_univ _, by omega, by omega⟩
    · exact .inr ⟨Finset.mem_univ _, by omega, by omega⟩
  · intro h
    have h : (i 0).val = c.val := h.elim (fun h => h.2.1) (fun h => h.2.1)
    intro a
    match a with
    | ⟨0, _⟩ => show c.val ≤ (i 0).val ∧ (i 0).val < c.val + 1; omega
    | ⟨1, _⟩ => show 0 ≤ (i 1).val ∧ (i 1).val < 0 + 32; omega
    | ⟨2, _⟩ => show 0 ≤ (i 2).val ∧ (i 2).val < 0 + 512; omega

/-- The own piece stored is its own entry among the received ones. -/
theorem own_piece (c : Dev nD) (x : S1x32x512.Idx) :
    (rsM.access (rPiece c)).read (Elt F) (RS m ρ c) x = k0_pay2 (xbM.view.readAt (Elt F) (rOwn c).toLoadRect (XB m ρ c)) x := by
  have hx : (rPiece c).emb x = ix3 (n0 := 32) (n1 := 32) (n2 := 512) c (x 1) (x 2) := by
    have h0 : (x 0).val < 1 := (x 0).isLt
    have hoff := k0_off7_eq c
    funext a
    match a with
    | ⟨0, _⟩ => exact Fin.ext (by show k0_off7 c 0 + 1 * (x 0).val = c.val; rw [hoff]; show c.val + _ = _; omega)
    | ⟨1, _⟩ => exact Fin.ext (by show k0_off7 c 1 + 1 * (x 1).val = (x 1).val; rw [hoff]; show 0 + _ = _; omega)
    | ⟨2, _⟩ => exact Fin.ext (by show k0_off7 c 2 + 1 * (x 2).val = (x 2).val; rw [hoff]; show 0 + _ = _; omega)
  have hy : Shape.reshapeEquiv (s := S1x32x512) (s' := S32x512) (by decide) (ix2 (n0 := 32) (n1 := 512) (x 1) (x 2)) = x :=
    (Shape.reshapeEquiv_cons_one (d := ![32, 512]) _ _).trans (by
      funext a
      match a with
      | ⟨0, _⟩ => exact Fin.ext (by have h0 : (x 0).val < 1 := (x 0).isLt; show 0 = (x 0).val; omega)
      | ⟨1, _⟩ => rfl
      | ⟨2, _⟩ => rfl)
  have hz : ∀ y : S32x512.Idx, (rOwn c).emb y = ix2 (n0 := 1024) (n1 := 512) ⟨32 * c.val + (y 0).val, lt_rows c (y 0)⟩ (y 1) := by
    intro y
    have hoff := k0_off6_eq c
    funext a
    match a with
    | ⟨0, _⟩ => exact Fin.ext (by show k0_off6 c 0 + 1 * (y 0).val = 32 * c.val + (y 0).val; rw [hoff]; show 32 * c.val + _ = _; omega)
    | ⟨1, _⟩ => exact Fin.ext (by show k0_off6 c 1 + 1 * (y 1).val = (y 1).val; rw [hoff]; show 0 + _ = _; omega)
  have hr : k0_pay2 (F := F) (xbM.view.readAt (Elt F) (rOwn c).toLoadRect (XB m ρ c)) x
      = XB m ρ c ((rOwn c).emb (Shape.reshapeEquiv (s := S32x512) (s' := S1x32x512) (by decide) x)) := rfl
  rw [hr, show Shape.reshapeEquiv (s := S32x512) (s' := S1x32x512) (by decide) x = ix2 (n0 := 32) (n1 := 512) (x 1) (x 2) from by
    conv_lhs => rw [← hy]
    rw [Shape.reshapeEquiv_reshapeEquiv, Shape.reshapeEquiv_self], hz]
  show RS m ρ c ((rPiece c).emb x) = _
  rw [hx]; rfl

/-- The half of the received pieces one reduction reads. -/
abbrev rRed (s : Fin 2) : Rect S32x32x512 := Rect.unit (s := S32x32x512) (redOff s) S32x16x512.size (redOff_inb s)
theorem rRed_set (s : Fin 2) : (rRed s).set = Finset.univ.biUnion fun k => rsSet (k, s) := by
  ext i
  rw [Rect.mem_set_unit, Finset.mem_biUnion]
  have h0 : (i 0).val < 32 := (i 0).isLt
  have h2 : (i 2).val < 512 := (i 2).isLt
  constructor
  · intro h
    have h1 : 16 * s.val ≤ (i 1).val ∧ (i 1).val < 16 * s.val + 16 := h 1
    exact ⟨i 0, Finset.mem_univ _, Finset.mem_filter.mpr ⟨Finset.mem_univ _, rfl, by show (i 1).val / 16 = s.val; omega⟩⟩
  · rintro ⟨k, -, h⟩
    have h : (i 1).val / 16 = s.val := (Finset.mem_filter.mp h).2.2
    intro a
    match a with
    | ⟨0, _⟩ => show 0 ≤ (i 0).val ∧ (i 0).val < 0 + 32; omega
    | ⟨1, _⟩ => show 16 * s.val ≤ (i 1).val ∧ (i 1).val < 16 * s.val + 16; omega
    | ⟨2, _⟩ => show 0 ≤ (i 2).val ∧ (i 2).val < 0 + 512; omega
theorem read_red (c : Dev nD) (s : Fin 2) : rsM.view.readAt (Elt F) (rRed s).toLoadRect (RS m ρ c) = halfRS m ρ c s := by
  funext x
  show RS m ρ c ((rRed s).emb x) = RS m ρ c (ix3 _ _ _)
  congr 1; funext a
  match a with
  | ⟨0, _⟩ => exact Fin.ext (by show 0 + 1 * (x 0).val = (x 0).val; omega)
  | ⟨1, _⟩ => exact Fin.ext (by show 16 * s.val + 1 * (x 1).val = 16 * s.val + (x 1).val; omega)
  | ⟨2, _⟩ => exact Fin.ext (by show 0 + 1 * (x 2).val = (x 2).val; omega)

abbrev rOut (c : Dev nD) (s : Fin 2) : Rect S1024x512 := Rect.unit (s := S1024x512) (rowOwn' c s) S16x512.size (k0_off10_inb c s)
abbrev rOut' (c : Dev nD) (r : Fin 31) (s : Fin 2) : Rect S1024x512 := Rect.unit (s := S1024x512) (rowPeer' c r s) S16x512.size (k0_off14_inb c r s)
abbrev rOb (s : Fin 2) : Rect S32x512 := Rect.unit (s := S32x512) (obOff s) S16x512.size (obOff_inb s)
theorem rOut_set (c : Dev nD) (s : Fin 2) : (rOut c s).set = rowSet (c, s) := rows_set (c, s) (rowOwn'_eq c s) _
theorem rOut'_set (c : Dev nD) (r : Fin 31) (s : Fin 2) : (rOut' c r s).set = rowSet (peer c r, s) := rows_set (peer c r, s) (rowPeer'_eq c r s) _

theorem OUT_at (c : Dev nD) (p : Fin 32 × Fin 2) (a : Fin 16) (b : Fin 512) :
    OUT m ρ c (ix2 (n0 := 1024) (n1 := 512) ⟨32 * p.1.val + 16 * p.2.val + a.val, lt_row p a⟩ b)
      = if p.1 = c then RED m ρ c p.2 (ix2 (n0 := 16) (n1 := 512) a b) else k0_pay7 (OBh m ρ p.1 p.2) (ix2 (n0 := 16) (n1 := 512) a b) := by
  show (if rowDev ⟨32 * p.1.val + 16 * p.2.val + a.val, lt_row p a⟩ = c
    then RED m ρ c (rowHalf ⟨32 * p.1.val + 16 * p.2.val + a.val, lt_row p a⟩) (ix2 (n0 := 16) (n1 := 512) (rowIn ⟨32 * p.1.val + 16 * p.2.val + a.val, lt_row p a⟩) b)
    else k0_pay7 (OBh m ρ (rowDev ⟨32 * p.1.val + 16 * p.2.val + a.val, lt_row p a⟩) (rowHalf ⟨32 * p.1.val + 16 * p.2.val + a.val, lt_row p a⟩))
      (ix2 (n0 := 16) (n1 := 512) (rowIn ⟨32 * p.1.val + 16 * p.2.val + a.val, lt_row p a⟩) b)) = _
  rw [rowDev_mk, rowHalf_mk, rowIn_mk]

/-- The reduced half chunk stored in the output, and in the wire's format. -/
theorem store_red (c : Dev nD) (s : Fin 2) (x : S16x512.Idx) :
    (outM.access (rOut c s)).read (Elt F) (OUT m ρ c) x = k0_pay3 (halfRS m ρ c s) x := by
  show OUT m ρ c ((rOut c s).emb x) = _
  rw [rows_emb (c, s) (rowOwn'_eq c s)]
  exact ((OUT_at m ρ c (c, s) (x 0) (x 1)).trans (if_pos rfl)).trans (congrArg _ (ix2_eta x))
theorem store_ob (c : Dev nD) (s : Fin 2) (x : S16x512.Idx) :
    (obM.access (rOb s)).read (Elt F) (OB m ρ c) x = k0_pay4 (halfRS m ρ c s) x := by
  show OB m ρ c ((rOb s).emb x) = _
  rw [ob_emb]; exact OB_row m ρ c s x
/-- A received half chunk read back, and widened into the output. -/
theorem read_ag (c : Dev nD) (r : Fin 31) (s : Fin 2) :
    agM.view.readAt (Elt F) (rOut' c r s).toLoadRect (AG m ρ) = OBh m ρ (peer c r) s := by
  funext x
  show AG m ρ ((rOut' c r s).emb x) = _
  rw [rows_emb (peer c r, s) (rowPeer'_eq c r s)]
  exact AG_row m ρ (peer c r, s) x
theorem store_out (c : Dev nD) (r : Fin 31) (s : Fin 2) (x : S16x512.Idx) :
    (outM.access (rOut' c r s)).read (Elt F) (OUT m ρ c) x = k0_pay7 (OBh m ρ (peer c r) s) x := by
  show OUT m ρ c ((rOut' c r s).emb x) = _
  rw [rows_emb (peer c r, s) (rowPeer'_eq c r s)]
  exact ((OUT_at m ρ c (peer c r, s) (x 0) (x 1)).trans (if_neg (peer_ne c r))).trans (congrArg _ (ix2_eta x))

end Cert.AllReduce
-- ==== Proof.Rules.lean ====
/- One theorem for each step of the body: what it needs and what it leaves. -/
module

public import proofs.«01_k».proof.Proof.Views

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a step on a device. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What all devices know throughout: the levels, and every semaphore's invariant and first round. -/
def Gam (K : Dev nD × CK → ℕ) : sProp 𝕄 :=
  iprop(levAts L lv ∗ bigSep Finset.univ fun ck : Dev nD × CK => iprop(cellInv ER (Rd m ρ) (K ck) (kcell ck) ∗ reached ER (kcell ck) 0))

instance Gam_persistent (K : Dev nD × CK → ℕ) : BI.Persistent (Gam (F := F) m ρ K) := by unfold Gam; infer_instance

variable (K : Dev nD × CK → ℕ)

/-- One conjunct of several. -/
theorem bigSep_one {I : Type} [DecidableEq I] {s : Finset I} {i : I} (h : i ∈ s) (Φ : I → sProp 𝕄) : (BI.bigSep s Φ : sProp 𝕄) ⊢ Φ i :=
  BI.bigSep_elim h

theorem Gam_lev : (Gam m ρ K : sProp 𝕄) ⊢ (levAts L lv : sProp 𝕄) := by unfold Gam; iintro ⟨H, -⟩; iexact H
/-- A device may wait on a semaphore at a level all it owes is above. -/
theorem Gam_wait (c : Dev nD) (sm : SemLoc sig) (n : ℕ) (O : CellTallies nD τ sig Unit) (hn : lv ((c : Thread nD τ), sm) () ≤ n) (hO : Above n O) :
    (Gam m ρ K : sProp 𝕄) ⊢ MayWait (c : Thread nD τ) sm () O := by
  unfold Gam; iintro ⟨H, -⟩; iapply (mayWait_above (F := F) c sm n O hn hO); iexact H
theorem Gam_cell (ck : Dev nD × CK) : Gam (F := F) m ρ K ⊢ iprop(cellInv ER (Rd m ρ) (K ck) (kcell ck) ∗ reached ER (kcell ck) 0) := by
  unfold Gam; iintro ⟨-, H⟩
  ihave H := (bigSep_one (Finset.mem_univ ck) _) $$ H
  iexact H

/-- A device's debts, at some record of its waits. -/
def ow (c : Dev nD) (O : CellTallies nD τ sig Unit) : sProp 𝕄 := iprop(∃ W, owes (c : Thread nD τ) O W)

/-! ## Signals, sends and waits -/

theorem step_signal (c : Dev nD) (r : Fin 31) (O : CellTallies nD τ sig Unit) :
    iprop(Gam m ρ K ∗ (dutyTok ER (kcell (peer c r, none)) 0 r.rev ∗ places c (peer c r)) ∗ ow c (O + tallyAt (kcell (peer c r, none)) () 1))
      ⊢ WP (F := F) c (signalP c r) (fun _ => iprop(emp ∗ ow c O)) := by
  unfold signalP ow
  simp only [semSignalWord, Prog.lift, Prog.bind_op, Prog.bind_ret, Prog.pure_eq_ret, devW_mk]
  iintro ⟨#HG, ⟨Ht, Hp⟩, ⟨%W, HO⟩⟩
  ihave ⟨#HI, #Hr⟩ := (Gam_cell m ρ K (peer c r, none)) $$ HG
  have f₁ : (Rd (F := F) m ρ).duties ((peer c r : Thread nD τ), .reg barS) 0 = Finset.univ := duties_kcell m ρ (peer c r, none)
  have g₁ : (Rd (F := F) m ρ).amount ((peer c r : Thread nD τ), .reg barS) 0 r.rev = 1 := amount_kcell m ρ (peer c r, none) r.rev
  have p₁ : (Rd (F := F) m ρ).payload ((peer c r : Thread nD τ), .reg barS) 0 r.rev = places c (peer c r) :=
    (payload_kcell m ρ (peer c r, none) r.rev).trans (by show places (peer (peer c r) r.rev) (peer c r) = _; rw [peer_rev])
  iapply (Rounds.wp_signal 𝒱₀ ER (Rd m ρ) (c : Thread nD τ) none (dst := (peer c r : Thread nD τ)) (κ := K (peer c r, none))
      (d := r.rev) (by rw [f₁]; exact Finset.mem_univ _) (g₁.trans (by decide)) () O rfl)
    $$ [HO Ht Hp]
  · isplitr; · iexact HI
    isplitl [HO]; · iexact HO
    isplitl [Ht]; · iexact Ht
    isplitl [Hp]
    · rw [p₁]; iexact Hp
    iexact Hr
  iintro HO
  rw [wp_ret]; imodintro
  isplitr; · iempintro
  iexists W; iexact HO

theorem step_send (c k : Dev nD) (a b : Fin 4 × Fin 31 × Fin 2) (src dst : Memref sig .tc .vmem S16x512 .bf16) (sS sR : DmaSem sig)
    (h₁ : src.view.WordExact) (h₂ : dst.view.WordExact)
    (eS : (SemLoc.dma sS : SemLoc sig) = csem c (some a)) (eR : (SemLoc.dma sR : SemLoc sig) = csem k (some b))
    (hN : dst.view.dmaCredit = N) {q : PosShare TreeShare} (fs : Buf (Elt F) (src.view.loc (c : Thread nD τ)))
    (hpay₁ : (src.view.loc (c : Thread nD τ) ↦[src.view.set]{q} fs) ⊢ pay m ρ (c, some a) 0)
    (hpay₂ : ∀ fd, (dst.view.loc (k : Thread nD τ) ↦[dst.view.set]{fullShare} (dst.view.write (Elt F) fd (src.view.read (Elt F) fs) Finset.univ))
      ⊢ pay m ρ (k, some b) 0) (O : CellTallies nD τ sig Unit) :
    iprop(Gam m ρ K ∗ ((src.view.loc (c : Thread nD τ) ↦[src.view.set]{q} fs) ∗ (∃ fd, dst.view.loc (k : Thread nD τ) ↦[dst.view.set]{fullShare} fd)
        ∗ dutyTok ER (kcell (c, some a)) 0 0 ∗ dutyTok ER (kcell (k, some b)) 0 0) ∗ ow c (O + tallyAt (kcell (k, some b)) () N))
      ⊢ WP (F := F) c (sendP src dst k sS sR h₁ h₂) (fun _ => iprop(cred (tallyAt (kcell (c, some a)) () N) ∗ ow c O)) := by
  unfold sendP ow
  simp only [Prog.lift, Prog.bind_op, Prog.bind_ret, Prog.pure_eq_ret]
  have e₁ : kcell (c, some a) = ((c : Thread nD τ), SemLoc.dma sS) := by show ((c : Thread nD τ), csem c (some a)) = _; rw [eS]
  have e₂ : kcell (k, some b) = ((k : Thread nD τ), SemLoc.dma sR) := by show ((k : Thread nD τ), csem k (some b)) = _; rw [eR]
  have f₁ := duties_kcell (F := F) m ρ (c, some a)
  have f₂ := duties_kcell (F := F) m ρ (k, some b)
  have g₁ := amount_kcell (F := F) m ρ (c, some a) 0
  have g₂ := amount_kcell (F := F) m ρ (k, some b) 0
  have p₁ := payload_kcell (F := F) m ρ (c, some a) 0
  have p₂ := payload_kcell (F := F) m ρ (k, some b) 0
  have i₁ := Gam_cell (F := F) m ρ K (c, some a)
  have i₂ := Gam_cell (F := F) m ρ K (k, some b)
  rw [e₁] at f₁ g₁ p₁ i₁ ⊢
  rw [e₂] at f₂ g₂ p₂ i₂ ⊢
  iintro ⟨#HG, ⟨Hs, ⟨%fd, Hd⟩, Ht1, Ht2⟩, ⟨%W, HO⟩⟩
  ihave ⟨#HI1, #Hr1⟩ := i₁ $$ HG
  ihave ⟨#HI2, #Hr2⟩ := i₂ $$ HG
  iapply (Rounds.wp_send_pointsTo 𝒱₀ ER (Rd m ρ) (c : Thread nD τ) none (sS := .dma sS) (sem := .dma sR) (κ₁ := K (c, some a)) (κ₂ := K (k, some b))
      (r₁ := 0) (r₂ := 0) (d₁ := 0) (d₂ := 0) (fd := fd) (fs := fs)
      (by rw [f₁]; exact Finset.mem_singleton_self _) (by rw [f₂]; exact Finset.mem_singleton_self _)
      () () N hN g₁ g₂ O rfl (W := W)
      (by rw [p₁]; exact hpay₁) (by rw [p₂]; exact hpay₂ fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc]; · iexact Hc
  iexists W; iexact HO

/-- A wait for a transfer gives what it carries, and the semaphore back at zero. -/
theorem step_wait (c : Dev nD) (a : Fin 4 × Fin 31 × Fin 2) (src dst : Memref sig .tc .vmem S16x512 .bf16) (sem : DmaSem sig)
    (h₁ : src.view.WordExact) (h₂ : dst.view.WordExact) (e : (SemLoc.dma sem : SemLoc sig) = csem c (some a)) (hN : dst.view.dmaCredit = N)
    (O : CellTallies nD τ sig Unit) (n : ℕ) (hn : lvOf (some a) ≤ n) (hO : Above n O) :
    iprop(Gam m ρ K ∗ (cred (tallyAt (kcell (c, some a)) () N) ∗ atPos ER (kcell (c, some a)) 0 ∅ 0) ∗ ow c O)
      ⊢ WP (F := F) c (waitP sem src dst h₁ h₂) (fun _ => iprop((pay m ρ (c, some a) 0 ∗ semVal (kcell (c, some a)) 0) ∗ ow c O)) := by
  unfold waitP ow
  simp only [Prog.lift, Prog.bind_op, Prog.bind_ret, Prog.pure_eq_ret]
  have e₁ : kcell (c, some a) = ((c : Thread nD τ), SemLoc.dma sem) := by show ((c : Thread nD τ), csem c (some a)) = _; rw [e]
  have f₁ := expect_dma (F := F) m ρ c a
  have r₁ := rest_dma (F := F) m ρ c a
  have i₁ := Gam_cell (F := F) m ρ K (c, some a)
  have l₁ := lv_kcell (c, some a) ()
  rw [e₁] at f₁ r₁ i₁ l₁ ⊢
  have hM : (Gam m ρ K : sProp 𝕄) ⊢ MayWait (c : Thread nD τ) (.dma sem) () O := Gam_wait m ρ K c (.dma sem) n O (l₁.le.trans hn) hO
  iintro ⟨#HG, ⟨Hc, Hat⟩, ⟨%W, HO⟩⟩
  ihave ⟨#HI, #Hr⟩ := i₁ $$ HG
  iapply (Rounds.wp_wait_rest_token 𝒱₀ ER (Rd m ρ) (c : Thread nD τ) none (κ := K (c, some a))
      (wpE_waitDma2_eq 𝒱₀ (c : Thread nD τ) none Set.univ) (Set.mem_univ _) () (O := O) (W := W) (R := 0) (m := 0) (T := ∅)
      ((Nat.zero_add _).trans (hN.trans f₁.symm))) $$ [Hc HO Hat]
  · isplitr; · iexact HI
    isplitl [Hc]; · rw [hN]; iexact Hc
    isplitl [HO]; · iexact HO
    isplitr; · iapply hM; iexact HG
    iexact Hat
  iintro ⟨HO, Hat, -, Hpay⟩
  imod (Rounds.cell_close ER (Rd m ρ) (Set.mem_univ (K (c, some a))) (fun h => h) (R := 0 + 1) (duties_later m ρ _)) $$ [Hat] with Hz
  · isplitr; · iexact HI
    iexact Hat
  ihave Hp := (Entails.of_eq r₁) $$ Hpay
  rw [wp_ret]; imodintro
  isplitl [Hp Hz]
  · isplitl [Hp]; · iexact Hp
    iexact Hz
  iexists _; iexact HO

/-- The barrier's wait gives the places the pieces will land in. -/
theorem step_barrier (c : Dev nD) (O : CellTallies nD τ sig Unit) (hO : Above 1 O) :
    iprop(Gam m ρ K ∗ (cred (tallyAt (kcell (c, none)) () 31) ∗ atPos ER (kcell (c, none)) 0 ∅ 0) ∗ ow c O)
      ⊢ WP (F := F) c barWaitP (fun _ => iprop(((bigSep Finset.univ fun r => places (peer c r) c) ∗ semVal (kcell (c, none)) 0) ∗ ow c O)) := by
  unfold barWaitP ow
  simp only [semWaitWord, Prog.lift, Prog.bind_op, Prog.bind_ret, Prog.pure_eq_ret]
  have hM : (Gam m ρ K : sProp 𝕄) ⊢ MayWait (c : Thread nD τ) (.reg barS) () O := Gam_wait m ρ K c (.reg barS) 1 O (lv_kcell (c, none) ()).le hO
  have e₁ : kcell (c, none) = ((c : Thread nD τ), SemLoc.reg barS) := rfl
  have f₁ := expect_bar (F := F) m ρ c
  have r₁ := rest_bar (F := F) m ρ c
  have i₁ := Gam_cell (F := F) m ρ K (c, none)
  rw [e₁] at f₁ r₁ i₁ ⊢
  iintro ⟨#HG, ⟨Hc, Hat⟩, ⟨%W, HO⟩⟩
  ihave ⟨#HI, #Hr⟩ := i₁ $$ HG
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by rw [f₁]; rfl)) $$ [Hc HO Hat]
  · isplitr; · iexact HI
    isplitl [Hc]; · iexact Hc
    isplitl [HO]; · iexact HO
    isplitr; · iapply hM; iexact HG
    iexact Hat
  iintro ⟨HO, Hat, -, Hpay⟩
  imod (Rounds.cell_close ER (Rd m ρ) (Set.mem_univ (K (c, none))) (fun h => h) (R := 0 + 1) (duties_later m ρ _)) $$ [Hat] with Hz
  · isplitr; · iexact HI
    iexact Hat
  ihave Hp := (Entails.of_eq r₁) $$ Hpay
  rw [wp_ret]; imodintro
  isplitl [Hp Hz]
  · isplitl [Hp]; · iexact Hp
    iexact Hz
  iexists _; iexact HO

/-- A half piece sent in the first phase. -/
theorem step_send1 (c : Dev nD) (s : Fin 2) (r : Fin 31) (O : CellTallies nD τ sig Unit) :
    iprop(Gam m ρ K ∗ (xbB c (peer c r, s) (XB m ρ c) ∗ (∃ f, rsB (peer c r) (c, s) f)
        ∗ dutyTok ER (kcell (c, some (0, r, s))) 0 0 ∗ dutyTok ER (kcell (peer c r, some (1, r.rev, s))) 0 0)
        ∗ ow c (O + tallyAt (kcell (peer c r, some (1, r.rev, s))) () N))
      ⊢ WP (F := F) c (send1P c s r) (fun _ => iprop(cred (tallyAt (kcell (c, some (0, r, s))) () N) ∗ ow c O)) := by
  have h := step_send m ρ K c (peer c r) (0, r, s) (1, r.rev, s) (xbV c r s) (rsOwnV c s) _ _
    ((Memref.isWhole_whole cc0_scratch0).wordExact_slice rfl _ (k0_off3_wordsbf16 c r s))
    (((Memref.isWhole_whole cc0_scratch1).wordExact_slice rfl _ (rsOwn_words c s)).reshape _ _)
    (sem_send1 c s r) (sem_own1 c s r) rfl (q := fullShare) (XB m ρ c)
    (by rw [xbV_set]; exact BI.Entails.refl _)
    (fun fd => by
      rw [pointsTo_congr (write_at (rsOwnV c s).view fd (RS m ρ (peer c r)) _ (land1 m ρ c r s)), rsOwnV_set]
      show _ ⊢ rsB (peer c r) (peer (peer c r) r.rev, s) (RS m ρ (peer c r))
      rw [peer_rev]) O
  rw [xbV_set, rsOwnV_set] at h
  unfold send1P; rw [devW_mk]
  exact h

/-- A reduced half chunk sent in the second phase. -/
theorem step_send2 (c : Dev nD) (s : Fin 2) (r : Fin 31) (O : CellTallies nD τ sig Unit) :
    iprop(Gam m ρ K ∗ (obB c s (obShare r) (OB m ρ c) ∗ (∃ f, agB (peer c r) (c, s) f)
        ∗ dutyTok ER (kcell (c, some (2, r, s))) 0 0 ∗ dutyTok ER (kcell (peer c r, some (3, r.rev, s))) 0 0)
        ∗ ow c (O + tallyAt (kcell (peer c r, some (3, r.rev, s))) () N))
      ⊢ WP (F := F) c (send2P c s r) (fun _ => iprop(cred (tallyAt (kcell (c, some (2, r, s))) () N) ∗ ow c O)) := by
  have h := step_send m ρ K c (peer c r) (2, r, s) (3, r.rev, s) (obV s) (agOwnV c s) _ _
    ((Memref.isWhole_whole cc0_scratch2).wordExact_slice rfl _ (obOff_words s))
    ((Memref.isWhole_whole cc0_scratch3).wordExact_slice rfl _ (k0_off11_wordsbf16 c s))
    (sem_send2 c s r) (sem_own2 c s r) rfl (q := obShare r) (OB m ρ c)
    (by rw [obV_set]; exact BI.Entails.refl _)
    (fun fd => by
      rw [pointsTo_congr (write_at (agOwnV c s).view fd (AG m ρ) _ (land2 m ρ c s)), agOwnV_set]
      show _ ⊢ agB (peer c r) (peer (peer c r) r.rev, s) (AG m ρ)
      rw [peer_rev]) O
  rw [obV_set, agOwnV_set] at h
  unfold send2P; rw [devW_mk]
  exact h

/-- The waits for the pieces, the gathered chunks, and the sends. -/
theorem step_recv1 (c : Dev nD) (s : Fin 2) (r : Fin 31) (O : CellTallies nD τ sig Unit) (hO : Above 2 O) :
    iprop(Gam m ρ K ∗ (cred (tallyAt (kcell (c, some (1, r, s))) () N) ∗ atPos ER (kcell (c, some (1, r, s))) 0 ∅ 0) ∗ ow c O)
      ⊢ WP (F := F) c (recv1P c s r) (fun _ => iprop((rsB c (peer c r, s) (RS m ρ c) ∗ semVal (kcell (c, some (1, r, s))) 0) ∗ ow c O)) :=
  step_wait m ρ K c (1, r, s) (rsPeerV c r s) (rsPeerV c r s) _
    (((Memref.isWhole_whole cc0_scratch1).wordExact_slice rfl _ (rsPeer_words c r s)).reshape _ _)
    (((Memref.isWhole_whole cc0_scratch1).wordExact_slice rfl _ (rsPeer_words c r s)).reshape _ _)
     (sem_recv1 c s r) rfl O 2 (by rfl) hO
theorem step_recv2 (c : Dev nD) (s : Fin 2) (r : Fin 31) :
    iprop(Gam m ρ K ∗ (cred (tallyAt (kcell (c, some (3, r, s))) () N) ∗ atPos ER (kcell (c, some (3, r, s))) 0 ∅ 0) ∗ ow c 0)
      ⊢ WP (F := F) c (recv2P c s r) (fun _ => iprop((agB c (peer c r, s) (AG m ρ) ∗ semVal (kcell (c, some (3, r, s))) 0) ∗ ow c 0)) :=
  step_wait m ρ K c (3, r, s) (agPeerV c r s) (agPeerV c r s) _
    ((Memref.isWhole_whole cc0_scratch3).wordExact_slice rfl _ (k0_off3_wordsbf16 c r s))
    ((Memref.isWhole_whole cc0_scratch3).wordExact_slice rfl _ (k0_off3_wordsbf16 c r s))
     (sem_recv2 c s r) rfl 0 3 (by rfl) (Above.zero 3)
theorem step_sent1 (c : Dev nD) (s : Fin 2) (r : Fin 31) :
    iprop(Gam m ρ K ∗ (cred (tallyAt (kcell (c, some (0, r, s))) () N) ∗ atPos ER (kcell (c, some (0, r, s))) 0 ∅ 0) ∗ ow c 0)
      ⊢ WP (F := F) c (sent1P c s r) (fun _ => iprop((xbB c (peer c r, s) (XB m ρ c) ∗ semVal (kcell (c, some (0, r, s))) 0) ∗ ow c 0)) :=
  step_wait m ρ K c (0, r, s) (rsOwnV c s) (xbV c r s) _
    (((Memref.isWhole_whole cc0_scratch1).wordExact_slice rfl _ (rsOwn_words c s)).reshape _ _)
    ((Memref.isWhole_whole cc0_scratch0).wordExact_slice rfl _ (k0_off3_wordsbf16 c r s))
     (sem_send1 c s r) rfl 0 0 (by rfl) (Above.zero 0)
theorem step_sent2 (c : Dev nD) (s : Fin 2) (r : Fin 31) :
    iprop(Gam m ρ K ∗ (cred (tallyAt (kcell (c, some (2, r, s))) () N) ∗ atPos ER (kcell (c, some (2, r, s))) 0 ∅ 0) ∗ ow c 0)
      ⊢ WP (F := F) c (sent2P c s r) (fun _ => iprop((obB c s (obShare r) (OB m ρ c) ∗ semVal (kcell (c, some (2, r, s))) 0) ∗ ow c 0)) :=
  step_wait m ρ K c (2, r, s) (agOwnV c s) (obV s) _
    ((Memref.isWhole_whole cc0_scratch3).wordExact_slice rfl _ (k0_off11_wordsbf16 c s))
    ((Memref.isWhole_whole cc0_scratch2).wordExact_slice rfl _ (obOff_words s))
     (sem_send2 c s r) rfl 0 0 (by rfl) (Above.zero 0)

end Cert.AllReduce
-- ==== Proof.Compute.lean ====
/- The steps that load, compute and store, and going through the distances one after another. -/
module

public import proofs.«01_k».proof.Proof.Rules

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The staged input, held whole. -/
abbrev xPts (c : Dev nD) : sProp 𝕄 := ((c : Thread nD τ).loc cc0_stg0_0) ↦{fullShare} xstg m ρ c

theorem step_cast (c : Dev nD) :
    iprop(xPts m ρ c ∗ (∃ f, ((c : Thread nD τ).loc cc0_scratch0) ↦{fullShare} f))
      ⊢ WP (F := F) c castP (fun _ => iprop(xPts m ρ c ∗ ((c : Thread nD τ).loc cc0_scratch0) ↦{fullShare} XB m ρ c)) := by
  unfold castP
  simp only [Prog.lift, Prog.bind_op, Prog.bind_ret, Prog.pure_eq_ret]
  iintro ⟨Hx, ⟨%f, Hb⟩⟩
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hb; iintro Hb
  iapply (wp_store 𝒱₀ (c : Thread nD τ) none Set.univ (m := xbM) (r := rFull) (Mk := Finset.univ) (Finset.subset_univ _)) $$ Hb; iintro Hb
  rw [write_xb, wp_ret]; imodintro
  isplitl [Hx]; · iexact Hx
  iexact Hb

theorem step_own (c : Dev nD) :
    iprop((xbB c (c, 0) (XB m ρ c) ∗ xbB c (c, 1) (XB m ρ c)) ∗ (∃ f, rsB c (c, 0) f) ∗ (∃ f, rsB c (c, 1) f))
      ⊢ WP (F := F) c (ownP c) (fun _ => iprop((xbB c (c, 0) (XB m ρ c) ∗ xbB c (c, 1) (XB m ρ c)) ∗ rsB c (c, 0) (RS m ρ c) ∗ rsB c (c, 1) (RS m ρ c))) := by
  have dX : Disjoint (rowSet (c, 0)) (rowSet (c, 1)) := rowSet_disj _ _ (fun h => absurd (congrArg Prod.snd h : (0 : Fin 2) = 1) (by decide : ¬ (0 : Fin 2) = 1))
  have dR : Disjoint (rsSet (c, 0)) (rsSet (c, 1)) := rsSet_disj _ _ (fun h => absurd (congrArg Prod.snd h : (0 : Fin 2) = 1) (by decide : ¬ (0 : Fin 2) = 1))
  unfold ownP
  simp only [Prog.lift, Prog.bind_op, Prog.bind_ret, Prog.pure_eq_ret]
  iintro ⟨Hx, ⟨%f, Hf⟩, ⟨%g, Hg⟩⟩
  ihave Hx := (pointsTo_union dX).2 $$ Hx
  ihave Hb := (pointsTo_join (ℓ := (c : Thread nD τ).loc cc0_scratch1) (q := fullShare) (f := f) (g := g) dR) $$ [Hf Hg]
  · isplitl [Hf]; · iexact Hf
    iexact Hg
  iapply (wp_load 𝒱₀ (c : Thread nD τ) none Set.univ (m := xbM)
    (show xbM.view.setOn (rOwn c).toLoadRect.set ⊆ _ from by
      rw [← rOwn_set]; show Finset.map _ _ ⊆ _; rw [show xbM.view.emb = Function.Embedding.refl _ from rfl, Finset.map_refl])) $$ Hx; iintro Hx
  iapply (wp_load 𝒱₀ (c : Thread nD τ) none Set.univ (m := rsM)
    (show rsM.view.setOn (rPiece c).toLoadRect.set ⊆ _ from by
      rw [← rPiece_set]; show Finset.map _ _ ⊆ _; rw [show rsM.view.emb = Function.Embedding.refl _ from rfl, Finset.map_refl])) $$ Hb; iintro Hb
  have hset : (rsM.access (rPiece c)).set = rsSet (c, 0) ∪ rsSet (c, 1) := (View.set_slice_whole _ _).trans (rPiece_set c)
  iapply (wp_store 𝒱₀ (c : Thread nD τ) none Set.univ (m := rsM) (r := rPiece c) (Mk := Finset.univ)
    (by rw [View.setOn_univ, hset])) $$ Hb; iintro Hb
  have hw := write_at (rsM.access (rPiece c)) ((rsSet (c, 1)).piecewise g f) (RS m ρ c)
    (k0_pay2 (xbM.view.readAt (Elt F) (rOwn c).toLoadRect (XB m ρ c))) (own_piece m ρ c)
  rw [hset] at hw
  ihave Hb := (Entails.of_eq (pointsTo_congr hw)) $$ Hb
  ihave ⟨H0, H1⟩ := (pointsTo_union dR).1 $$ Hb
  ihave Hx := (pointsTo_union dX).1 $$ Hx
  rw [wp_ret]; imodintro
  isplitl [Hx]; · iexact Hx
  isplitl [H0]; · iexact H0
  iexact H1

theorem step_reduce (c : Dev nD) (s : Fin 2) :
    iprop((bigSep Finset.univ fun k => rsB c (k, s) (RS m ρ c)) ∗ (∃ f, outB c (c, s) f) ∗ (∃ f, obB c s fullShare f))
      ⊢ WP (F := F) c (reduceP c s) (fun _ => iprop((bigSep Finset.univ fun k => rsB c (k, s) (RS m ρ c)) ∗ outB c (c, s) (OUT m ρ c) ∗ obB c s fullShare (OB m ρ c))) := by
  have hb : (bigSep Finset.univ fun k => rsB (F := F) c (k, s) (RS m ρ c))
      = (((c : Thread nD τ).loc cc0_scratch1) ↦[(rRed s).set]{fullShare} RS m ρ c : sProp 𝕄) := by
    rw [rRed_set]
    exact (pointsTo_biUnion (ℓ := (c : Thread nD τ).loc cc0_scratch1) (q := fullShare) (f := RS m ρ c) Finset.univ (fun k => rsSet (k, s)) (fun k _ k' _ h => rsSet_disj _ _ (fun e => h (congrArg Prod.fst e)))).symm
  rw [hb]
  unfold reduceP
  simp only [Prog.lift, Prog.bind_op, Prog.bind_ret, Prog.pure_eq_ret]
  iintro ⟨Hr, ⟨%f, Ho⟩, ⟨%g, Hb⟩⟩
  iapply (wp_load 𝒱₀ (c : Thread nD τ) none Set.univ (m := rsM)
    (show rsM.view.setOn (rRed s).toLoadRect.set ⊆ _ from by
      show Finset.map _ _ ⊆ _; rw [show rsM.view.emb = Function.Embedding.refl _ from rfl, Finset.map_refl])) $$ Hr; iintro Hr
  rw [read_red]
  have hso : (outM.access (rOut c s)).set = rowSet (c, s) := (View.set_slice_whole _ _).trans (rOut_set c s)
  have hsb : (obM.access (rOb s)).set = obSet s := (View.set_slice_whole _ _).trans (ob_set s)
  iapply (wp_load 𝒱₀ (c : Thread nD τ) none Set.univ (m := outM)
    (show outM.view.setOn (rOut c s).toLoadRect.set ⊆ _ from by
      rw [← rOut_set]; show Finset.map _ _ ⊆ _; rw [show outM.view.emb = Function.Embedding.refl _ from rfl, Finset.map_refl])) $$ Ho; iintro Ho
  iapply (wp_store 𝒱₀ (c : Thread nD τ) none Set.univ (m := outM) (r := rOut c s) (Mk := Finset.univ)
    (by rw [View.setOn_univ, hso])) $$ Ho; iintro Ho
  iapply (wp_load 𝒱₀ (c : Thread nD τ) none Set.univ (m := obM)
    (show obM.view.setOn (rOb s).toLoadRect.set ⊆ _ from by
      rw [← ob_set]; show Finset.map _ _ ⊆ _; rw [show obM.view.emb = Function.Embedding.refl _ from rfl, Finset.map_refl])) $$ Hb; iintro Hb
  iapply (wp_store 𝒱₀ (c : Thread nD τ) none Set.univ (m := obM) (r := rOb s) (Mk := Finset.univ)
    (by rw [View.setOn_univ, hsb])) $$ Hb; iintro Hb
  have h1 := write_at (outM.access (rOut c s)) f (OUT m ρ c) (k0_pay3 (halfRS m ρ c s)) (store_red m ρ c s)
  have h2 := write_at (obM.access (rOb s)) g (OB m ρ c) (k0_pay4 (halfRS m ρ c s)) (store_ob m ρ c s)
  rw [hso] at h1; rw [hsb] at h2
  ihave Ho := (Entails.of_eq (pointsTo_congr h1)) $$ Ho
  ihave Hb := (Entails.of_eq (pointsTo_congr h2)) $$ Hb
  rw [wp_ret]; imodintro
  isplitl [Hr]; · iexact Hr
  isplitl [Ho]; · iexact Ho
  iexact Hb

theorem step_widen (c : Dev nD) (s : Fin 2) (r : Fin 31) :
    iprop(agB c (peer c r, s) (AG m ρ) ∗ (∃ f, outB c (peer c r, s) f))
      ⊢ WP (F := F) c (widenP c s r) (fun _ => iprop(agB c (peer c r, s) (AG m ρ) ∗ outB c (peer c r, s) (OUT m ρ c))) := by
  unfold widenP
  simp only [Prog.lift, Prog.bind_op, Prog.bind_ret, Prog.pure_eq_ret]
  iintro ⟨Ha, ⟨%f, Ho⟩⟩
  iapply (wp_load 𝒱₀ (c : Thread nD τ) none Set.univ (m := agM)
    (show agM.view.setOn (rOut' c r s).toLoadRect.set ⊆ _ from by
      rw [← rOut'_set]; show Finset.map _ _ ⊆ _; rw [show agM.view.emb = Function.Embedding.refl _ from rfl, Finset.map_refl])) $$ Ha; iintro Ha
  rw [read_ag]
  have hso : (outM.access (rOut' c r s)).set = rowSet (peer c r, s) := (View.set_slice_whole _ _).trans (rOut'_set c r s)
  iapply (wp_load 𝒱₀ (c : Thread nD τ) none Set.univ (m := outM)
    (show outM.view.setOn (rOut' c r s).toLoadRect.set ⊆ _ from by
      rw [← rOut'_set]; show Finset.map _ _ ⊆ _; rw [show outM.view.emb = Function.Embedding.refl _ from rfl, Finset.map_refl])) $$ Ho; iintro Ho
  iapply (wp_store 𝒱₀ (c : Thread nD τ) none Set.univ (m := outM) (r := rOut' c r s) (Mk := Finset.univ)
    (by rw [View.setOn_univ, hso])) $$ Ho; iintro Ho
  have h1 := write_at (outM.access (rOut' c r s)) f (OUT m ρ c) (k0_pay7 (OBh m ρ (peer c r) s)) (store_out m ρ c r s)
  rw [hso] at h1
  ihave Ho := (Entails.of_eq (pointsTo_congr h1)) $$ Ho
  rw [wp_ret]; imodintro
  isplitl [Ha]; · iexact Ha
  iexact Ho

/-! ## One step after another -/

/-- A step, then the rest. -/
theorem wp_step (c : Dev nD) {α : Type} {p : Prog (TpuEff nD τ sig (Elt F) Λ₀ .tc) PUnit} {k : PUnit → Prog (TpuEff nD τ sig (Elt F) Λ₀ .tc) α}
    {P Q : sProp 𝕄} {Ψ : α → sProp 𝕄} (h : P ⊢ WP c p (fun _ => Q)) :
    P ⊢ iprop((Q -∗ WP c (k PUnit.unit) Ψ) -∗ WP c (p >>= k) Ψ) := by
  show P ⊢ iprop((Q -∗ WP c (k PUnit.unit) Ψ) -∗ wp frame (wpE (defs₀ (F := F)) 𝒱₀ (c : Thread nD τ) none) Set.univ (p >>= k) Ψ)
  rw [wp_bind]
  iintro HP Hk
  ihave H := h $$ HP
  iapply (wp_wand_r frame (wpE (defs₀ (F := F)) 𝒱₀ (c : Thread nD τ) none) Set.univ)
  isplitl [H]; · iexact H
  iintro %a HQ
  cases a
  iapply Hk; iexact HQ

/-- A step at every distance of a list: each takes its part and leaves its part, and changes what is common. -/
theorem wp_wave (c : Dev nD) (P : Fin 31 → Prog (TpuEff nD τ sig (Elt F) Λ₀ .tc) PUnit) (Γ : sProp 𝕄) [BI.Persistent Γ]
    (A B : Fin 31 → sProp 𝕄) (S : Finset (Fin 31) → sProp 𝕄)
    (h : ∀ r s, r ∉ s → iprop(Γ ∗ A r ∗ S (insert r s)) ⊢ WP c (P r) (fun _ => iprop(B r ∗ S s))) :
    ∀ l : List (Fin 31), l.Nodup →
      iprop(Γ ∗ BI.bigSep l.toFinset A ∗ S l.toFinset) ⊢ WP c (wave P l) (fun _ => iprop(BI.bigSep l.toFinset B ∗ S ∅)) := by
  intro l
  induction l with
  | nil =>
    intro _
    show _ ⊢ wp frame (wpE (defs₀ (F := F)) 𝒱₀ (c : Thread nD τ) none) Set.univ (.ret PUnit.unit) _
    rw [wp_ret, List.toFinset_nil, BI.bigSep_empty, BI.bigSep_empty]
    iintro ⟨-, H⟩; imodintro; iexact H
  | cons r l ih =>
    intro hl
    obtain ⟨hr, hl⟩ := List.nodup_cons.mp hl
    have hr' : r ∉ l.toFinset := fun h => hr (List.mem_toFinset.mp h)
    show _ ⊢ WP c (P r >>= fun _ => wave P l) _
    rw [List.toFinset_cons, show BI.bigSep (insert r l.toFinset) A = iprop(A r ∗ BI.bigSep l.toFinset A) from BI.bigSep_insert hr',
      show BI.bigSep (insert r l.toFinset) B = iprop(B r ∗ BI.bigSep l.toFinset B) from BI.bigSep_insert hr']
    iintro ⟨#HΓ, ⟨HA, HAs⟩, HS⟩
    iapply (wp_step c (h r l.toFinset hr')) $$ [HA HS]
    · isplitr; · iexact HΓ
      isplitl [HA] <;> iassumption
    iintro ⟨HB, HS⟩
    ihave H := (ih hl) $$ [HAs HS]
    · isplitr; · iexact HΓ
      isplitl [HAs] <;> iassumption
    iapply (wp_wand_r frame (wpE (defs₀ (F := F)) 𝒱₀ (c : Thread nD τ) none) Set.univ)
    isplitl [H]; · iexact H
    iintro %a ⟨HBs, HS⟩
    isplitr [HS]
    · isplitl [HB] <;> iassumption
    iexact HS

theorem rs_nodup : rs.Nodup := by decide
theorem rs_univ : rs.toFinset = Finset.univ := by decide

/-- A step at every distance. -/
theorem wp_all (c : Dev nD) (P : Fin 31 → Prog (TpuEff nD τ sig (Elt F) Λ₀ .tc) PUnit) (Γ : sProp 𝕄) [BI.Persistent Γ]
    (A B : Fin 31 → sProp 𝕄) (S : Finset (Fin 31) → sProp 𝕄)
    (h : ∀ r s, r ∉ s → iprop(Γ ∗ A r ∗ S (insert r s)) ⊢ WP c (P r) (fun _ => iprop(B r ∗ S s))) :
    iprop(Γ ∗ BI.bigSep Finset.univ A ∗ S Finset.univ) ⊢ WP c (wave P rs) (fun _ => iprop(BI.bigSep Finset.univ B ∗ S ∅)) := by
  have := wp_wave c P Γ A B S h rs rs_nodup
  rw [rs_univ] at this
  exact this

end Cert.AllReduce
-- ==== Proof.Waves.lean ====
/- The body's steps gone through for all distances, and buffers cut into the blocks of the devices. -/
module

public import proofs.«01_k».proof.Proof.Compute

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## A device and the others -/

/-- The devices are one device and those at the distances from it. -/
theorem ring_univ (c : Dev nD) : (Finset.univ : Finset (Fin 32)) = insert c (Finset.univ.image (peer c)) := by
  ext k
  simp only [Finset.mem_univ, Finset.mem_insert, Finset.mem_image, true_and, true_iff]
  by_cases h : k = c
  · exact Or.inl h
  · exact Or.inr (peer_surj c k h)
theorem ring_split (c : Dev nD) (Φ : Fin 32 → sProp 𝕄) :
    bigSep Finset.univ Φ = iprop(Φ c ∗ bigSep Finset.univ fun r => Φ (peer c r)) := by
  rw [ring_univ c]
  refine (BI.bigSep_insert fun h => ?_).trans ?_
  · obtain ⟨r, -, hr⟩ := Finset.mem_image.mp h
    exact peer_ne c r hr
  · rw [bigSep_image_of_injOn (fun a _ b _ h => peer_inj c h)]; rfl
/-- The half chunks: a device's own two and those of the others. -/
theorem blocks_split (c : Dev nD) (Φ : Fin 32 × Fin 2 → sProp 𝕄) :
    bigSep Finset.univ Φ = iprop((Φ (c, 0) ∗ bigSep Finset.univ fun r => Φ (peer c r, 0)) ∗ Φ (c, 1) ∗ bigSep Finset.univ fun r => Φ (peer c r, 1)) := by
  rw [bigSep_univ_prod, bigSep_univ_comm, bigSep_univ_two, ring_split c, ring_split c]

/-! ## What is owed, a distance at a time -/

theorem oweBar_insert (c : Dev nD) (O : CellTallies nD τ sig Unit) {r : Fin 31} {s : Finset (Fin 31)} (h : r ∉ s) :
    O + oweBar c (insert r s) = (O + oweBar c s) + tallyAt (kcell (peer c r, none)) () 1 := by
  unfold oweBar; rw [Finset.sum_insert h, add_comm (tallyAt _ _ _), add_assoc]
theorem oweBar_empty (c : Dev nD) (O : CellTallies nD τ sig Unit) : O + oweBar c ∅ = O := by
  unfold oweBar; rw [Finset.sum_empty, add_zero]
theorem oweDma_insert (c : Dev nD) (A : Fin 4) (h : Fin 2) (O : CellTallies nD τ sig Unit) {r : Fin 31} {s : Finset (Fin 31)} (hr : r ∉ s) :
    O + oweDma c A h (insert r s) = (O + oweDma c A h s) + tallyAt (kcell (peer c r, some (A, r.rev, h))) () N := by
  unfold oweDma; rw [Finset.sum_insert hr, add_comm (tallyAt _ _ _), add_assoc]
theorem oweDma_empty (c : Dev nD) (A : Fin 4) (h : Fin 2) (O : CellTallies nD τ sig Unit) : O + oweDma c A h ∅ = O := by
  unfold oweDma; rw [Finset.sum_empty, add_zero]

/-! ## The steps for all distances -/

/-- The two duties of a first send, of a second send; what a wait takes. -/
def toks1 (c : Dev nD) (s : Fin 2) (r : Fin 31) : sProp 𝕄 :=
  iprop(dutyTok ER (kcell (c, some (0, r, s))) 0 0 ∗ dutyTok ER (kcell (peer c r, some (1, r.rev, s))) 0 0)
def toks2 (c : Dev nD) (s : Fin 2) (r : Fin 31) : sProp 𝕄 :=
  iprop(dutyTok ER (kcell (c, some (2, r, s))) 0 0 ∗ dutyTok ER (kcell (peer c r, some (3, r.rev, s))) 0 0)
abbrev credOf (c : Dev nD) (A : Fin 4) (s : Fin 2) (r : Fin 31) : sProp 𝕄 := cred (tallyAt (kcell (c, some (A, r, s))) () N)
abbrev posOf (c : Dev nD) (A : Fin 4) (s : Fin 2) (r : Fin 31) : sProp 𝕄 := atPos ER (kcell (c, some (A, r, s))) 0 ∅ 0
abbrev valOf (c : Dev nD) (A : Fin 4) (s : Fin 2) (r : Fin 31) : sProp 𝕄 := semVal (kcell (c, some (A, r, s))) 0

theorem wave_signal (c : Dev nD) (O : CellTallies nD τ sig Unit) :
    iprop(Gam m ρ K ∗ (bigSep Finset.univ fun r => iprop(dutyTok ER (kcell (peer c r, none)) 0 r.rev ∗ places (F := F) c (peer c r))) ∗ ow c (O + oweBar c Finset.univ))
      ⊢ WP (F := F) c (wave (signalP c) rs) (fun _ => iprop((bigSep Finset.univ fun _ : Fin 31 => iprop(emp)) ∗ ow c O)) := by
  have h := wp_all c (signalP c) (Gam m ρ K) (fun r => iprop(dutyTok ER (kcell (peer c r, none)) 0 r.rev ∗ places (F := F) c (peer c r))) (fun _ => iprop(emp))
    (fun t => ow c (O + oweBar c t)) (fun r t h => by beta_reduce; rw [oweBar_insert c O h]; exact step_signal m ρ K c r _)
  rw [oweBar_empty] at h
  exact h

theorem wave_send1 (c : Dev nD) (s : Fin 2) (O : CellTallies nD τ sig Unit) :
    iprop(Gam m ρ K ∗ (bigSep Finset.univ fun r => iprop(xbB c (peer c r, s) (XB m ρ c) ∗ (∃ f, rsB (peer c r) (c, s) f) ∗ toks1 (F := F) c s r)) ∗ ow c (O + oweDma c 1 s Finset.univ))
      ⊢ WP (F := F) c (wave (send1P c s) rs) (fun _ => iprop((bigSep Finset.univ fun r => credOf c 0 s r) ∗ ow c O)) := by
  have h := wp_all c (send1P c s) (Gam m ρ K) (fun r => iprop(xbB c (peer c r, s) (XB m ρ c) ∗ (∃ f, rsB (peer c r) (c, s) f) ∗ toks1 (F := F) c s r)) (fun r => credOf c 0 s r)
    (fun t => ow c (O + oweDma c 1 s t)) (fun r t h => by beta_reduce; rw [oweDma_insert c 1 s O h]; unfold toks1; exact step_send1 m ρ K c s r _)
  rw [oweDma_empty] at h
  exact h

theorem wave_send2 (c : Dev nD) (s : Fin 2) (O : CellTallies nD τ sig Unit) :
    iprop(Gam m ρ K ∗ (bigSep Finset.univ fun r => iprop(obB c s (obShare r) (OB m ρ c) ∗ (∃ f, agB (peer c r) (c, s) f) ∗ toks2 (F := F) c s r)) ∗ ow c (O + oweDma c 3 s Finset.univ))
      ⊢ WP (F := F) c (wave (send2P c s) rs) (fun _ => iprop((bigSep Finset.univ fun r => credOf c 2 s r) ∗ ow c O)) := by
  have h := wp_all c (send2P c s) (Gam m ρ K) (fun r => iprop(obB c s (obShare r) (OB m ρ c) ∗ (∃ f, agB (peer c r) (c, s) f) ∗ toks2 (F := F) c s r)) (fun r => credOf c 2 s r)
    (fun t => ow c (O + oweDma c 3 s t)) (fun r t h => by beta_reduce; rw [oweDma_insert c 3 s O h]; unfold toks2; exact step_send2 m ρ K c s r _)
  rw [oweDma_empty] at h
  exact h

theorem wave_recv1 (c : Dev nD) (s : Fin 2) (O : CellTallies nD τ sig Unit) (hO : Above 2 O) :
    iprop(Gam m ρ K ∗ (bigSep Finset.univ fun r => iprop(credOf (F := F) c 1 s r ∗ posOf c 1 s r)) ∗ ow c O)
      ⊢ WP (F := F) c (wave (recv1P c s) rs) (fun _ => iprop((bigSep Finset.univ fun r => iprop(rsB c (peer c r, s) (RS m ρ c) ∗ valOf c 1 s r)) ∗ ow c O)) :=
  wp_all c (recv1P c s) (Gam m ρ K) (fun r => iprop(credOf (F := F) c 1 s r ∗ posOf c 1 s r)) (fun r => iprop(rsB c (peer c r, s) (RS m ρ c) ∗ valOf c 1 s r))
    (fun _ => ow c O) (fun r _ _ => step_recv1 m ρ K c s r O hO)

theorem wave_sent1 (c : Dev nD) (s : Fin 2) :
    iprop(Gam m ρ K ∗ (bigSep Finset.univ fun r => iprop(credOf (F := F) c 0 s r ∗ posOf c 0 s r)) ∗ ow c 0)
      ⊢ WP (F := F) c (wave (sent1P c s) rs) (fun _ => iprop((bigSep Finset.univ fun r => iprop(xbB c (peer c r, s) (XB m ρ c) ∗ valOf c 0 s r)) ∗ ow c 0)) :=
  wp_all c (sent1P c s) (Gam m ρ K) (fun r => iprop(credOf (F := F) c 0 s r ∗ posOf c 0 s r)) (fun r => iprop(xbB c (peer c r, s) (XB m ρ c) ∗ valOf c 0 s r))
    (fun _ => ow c 0) (fun r _ _ => step_sent1 m ρ K c s r)

theorem wave_sent2 (c : Dev nD) (s : Fin 2) :
    iprop(Gam m ρ K ∗ (bigSep Finset.univ fun r => iprop(credOf (F := F) c 2 s r ∗ posOf c 2 s r)) ∗ ow c 0)
      ⊢ WP (F := F) c (wave (sent2P c s) rs) (fun _ => iprop((bigSep Finset.univ fun r => iprop(obB c s (obShare r) (OB m ρ c) ∗ valOf c 2 s r)) ∗ ow c 0)) :=
  wp_all c (sent2P c s) (Gam m ρ K) (fun r => iprop(credOf (F := F) c 2 s r ∗ posOf c 2 s r)) (fun r => iprop(obB c s (obShare r) (OB m ρ c) ∗ valOf c 2 s r))
    (fun _ => ow c 0) (fun r _ _ => step_sent2 m ρ K c s r)

theorem step_gather (c : Dev nD) (s : Fin 2) (r : Fin 31) :
    iprop(Gam m ρ K ∗ ((credOf (F := F) c 3 s r ∗ posOf c 3 s r) ∗ ∃ f, outB c (peer c r, s) f) ∗ ow c 0)
      ⊢ WP (F := F) c (gatherP c s r) (fun _ => iprop((agB c (peer c r, s) (AG m ρ) ∗ outB c (peer c r, s) (OUT m ρ c) ∗ valOf c 3 s r) ∗ ow c 0)) := by
  unfold gatherP
  iintro ⟨#HG, ⟨Hw, Hout⟩, HO⟩
  iapply (wp_step c (step_recv2 m ρ K c s r)) $$ [Hw HO]
  · isplitr; · iexact HG
    isplitl [Hw] <;> iassumption
  iintro ⟨⟨Ha, Hv⟩, HO⟩
  ihave H := (step_widen m ρ c s r) $$ [Ha Hout]
  · isplitl [Ha] <;> iassumption
  iapply (wp_wand_r frame (wpE (defs₀ (F := F)) 𝒱₀ (c : Thread nD τ) none) Set.univ)
  isplitl [H]; · iexact H
  iintro %a ⟨Ha, Hout⟩
  isplitr [HO]
  · isplitl [Ha]; · iexact Ha
    isplitl [Hout] <;> iassumption
  iexact HO

theorem wave_gather (c : Dev nD) (s : Fin 2) :
    iprop(Gam m ρ K ∗ (bigSep Finset.univ fun r => iprop((credOf (F := F) c 3 s r ∗ posOf c 3 s r) ∗ ∃ f, outB c (peer c r, s) f)) ∗ ow c 0)
      ⊢ WP (F := F) c (wave (gatherP c s) rs) (fun _ => iprop((bigSep Finset.univ fun r => iprop(agB c (peer c r, s) (AG m ρ) ∗ outB c (peer c r, s) (OUT m ρ c) ∗ valOf c 3 s r)) ∗ ow c 0)) :=
  wp_all c (gatherP c s) (Gam m ρ K) (fun r => iprop((credOf (F := F) c 3 s r ∗ posOf c 3 s r) ∗ ∃ f, outB c (peer c r, s) f))
    (fun r => iprop(agB c (peer c r, s) (AG m ρ) ∗ outB c (peer c r, s) (OUT m ρ c) ∗ valOf c 3 s r))
    (fun _ => ow c 0) (fun r _ _ => step_gather m ρ K c s r)

/-! ## The phases -/

/-- A buffer of whole rows as the half chunks' rows. -/
theorem xb_blocks (c : Dev nD) (f : Vec F S1024x512 .bf16) :
    (((c : Thread nD τ).loc cc0_scratch0) ↦{fullShare} f : sProp 𝕄)
      = iprop((xbB c (c, 0) f ∗ bigSep Finset.univ fun r => xbB c (peer c r, 0) f) ∗ xbB c (c, 1) f ∗ bigSep Finset.univ fun r => xbB c (peer c r, 1) f) := by
  rw [← blocks_split c fun p => xbB c p f]
  exact Ring.pointsTo_blocks (ℓ := (c : Thread nD τ).loc cc0_scratch0) (q := fullShare) rowSet (fun b b' h => rowSet_disj b b' h) rowSet_cover f
theorem rs_blocks (c : Dev nD) (f : Vec F S32x32x512 .bf16) :
    (((c : Thread nD τ).loc cc0_scratch1) ↦{fullShare} f : sProp 𝕄)
      = iprop((rsB c (c, 0) f ∗ bigSep Finset.univ fun r => rsB c (peer c r, 0) f) ∗ rsB c (c, 1) f ∗ bigSep Finset.univ fun r => rsB c (peer c r, 1) f) := by
  rw [← blocks_split c fun p => rsB c p f]
  exact Ring.pointsTo_blocks (ℓ := (c : Thread nD τ).loc cc0_scratch1) (q := fullShare) rsSet (fun b b' h => rsSet_disj b b' h) rsSet_cover f
theorem ag_blocks (c : Dev nD) (f : Vec F S1024x512 .bf16) :
    (((c : Thread nD τ).loc cc0_scratch3) ↦{fullShare} f : sProp 𝕄)
      = iprop((agB c (c, 0) f ∗ bigSep Finset.univ fun r => agB c (peer c r, 0) f) ∗ agB c (c, 1) f ∗ bigSep Finset.univ fun r => agB c (peer c r, 1) f) := by
  rw [← blocks_split c fun p => agB c p f]
  exact Ring.pointsTo_blocks (ℓ := (c : Thread nD τ).loc cc0_scratch3) (q := fullShare) rowSet (fun b b' h => rowSet_disj b b' h) rowSet_cover f
theorem out_blocks (c : Dev nD) (f : Vec F S1024x512 .f32) :
    (((c : Thread nD τ).loc cc0_stg1_0) ↦{fullShare} f : sProp 𝕄)
      = iprop((outB c (c, 0) f ∗ bigSep Finset.univ fun r => outB c (peer c r, 0) f) ∗ outB c (c, 1) f ∗ bigSep Finset.univ fun r => outB c (peer c r, 1) f) := by
  rw [← blocks_split c fun p => outB c p f]
  exact Ring.pointsTo_blocks (ℓ := (c : Thread nD τ).loc cc0_stg1_0) (q := fullShare) rowSet (fun b b' h => rowSet_disj b b' h) rowSet_cover f
theorem ob_blocks (c : Dev nD) (f : Vec F S32x512 .bf16) :
    (((c : Thread nD τ).loc cc0_scratch2) ↦{fullShare} f : sProp 𝕄) = iprop(obB c 0 fullShare f ∗ obB c 1 fullShare f) := by
  rw [← bigSep_univ_two fun s => obB c s fullShare f]
  exact Ring.pointsTo_blocks (ℓ := (c : Thread nD τ).loc cc0_scratch2) (q := fullShare) obSet (fun b b' h => obSet_disj b b' h) obSet_cover f
/-- A half of the reduced chunk dealt to its sends. -/
theorem ob_deal (c : Dev nD) (s : Fin 2) (f : Vec F S32x512 .bf16) :
    (obB c s fullShare f : sProp 𝕄) = bigSep Finset.univ fun r : Fin 31 => obB c s (obShare r) f :=
  Transfers.pointsTo_deal Finset.univ Finset.univ_nonempty fullShare

end Cert.AllReduce
-- ==== Proof.Body.lean ====
/- The body on one device, phase after phase, from what the device starts with to what it leaves. -/
module

public import proofs.«01_k».proof.Proof.Waves

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The first phase -/

/-- What is handed over at a distance, from all distances, kind by kind. -/
theorem places_from (c : Dev nD) :
    (bigSep Finset.univ fun r => places (F := F) (peer c r) c)
      = iprop(((bigSep Finset.univ fun r => iprop(∃ f, rsB (peer c r) (c, 0) f)) ∗ bigSep Finset.univ fun r => iprop(∃ f, rsB (peer c r) (c, 1) f))
          ∗ (bigSep Finset.univ fun r => iprop(∃ f, agB (peer c r) (c, 0) f)) ∗ bigSep Finset.univ fun r => iprop(∃ f, agB (peer c r) (c, 1) f)) := by
  unfold places; rw [bigSep_sep', bigSep_sep', bigSep_sep']

/-- What the first phase takes, apart from what is owed, and what it leaves. -/
def in1 (c : Dev nD) : sProp 𝕄 :=
  iprop((bigSep Finset.univ fun r => iprop(dutyTok ER (kcell (peer c r, none)) 0 r.rev ∗ places (F := F) c (peer c r)))
    ∗ (xPts m ρ c ∗ ∃ f, ((c : Thread nD τ).loc cc0_scratch0) ↦{fullShare} f)
    ∗ (cred (tallyAt (kcell (c, none)) () 31) ∗ atPos ER (kcell (c, none)) 0 ∅ 0)
    ∗ (bigSep Finset.univ fun r => toks1 c 0 r) ∗ (bigSep Finset.univ fun r => toks1 c 1 r)
    ∗ (∃ f, rsB c (c, 0) f) ∗ ∃ f, rsB c (c, 1) f)
def out1 (c : Dev nD) : sProp 𝕄 :=
  iprop(xPts m ρ c ∗ semVal (kcell (c, none)) 0
    ∗ ((xbB c (c, 0) (XB m ρ c) ∗ xbB c (c, 1) (XB m ρ c)) ∗ rsB c (c, 0) (RS m ρ c) ∗ rsB c (c, 1) (RS m ρ c))
    ∗ (bigSep Finset.univ fun r => credOf c 0 0 r) ∗ (bigSep Finset.univ fun r => credOf c 0 1 r)
    ∗ (bigSep Finset.univ fun r => iprop(∃ f, agB (peer c r) (c, 0) f)) ∗ bigSep Finset.univ fun r => iprop(∃ f, agB (peer c r) (c, 1) f))

theorem phase1_wp (c : Dev nD) :
    iprop(Gam m ρ K ∗ in1 m ρ c ∗ ow c (O₀ c)) ⊢ WP (F := F) c (phase1 c) (fun _ => iprop(out1 m ρ c ∗ ow c (owe2 c))) := by
  unfold phase1 in1 O₀
  iintro ⟨#HG, ⟨Hsig, Hxx, Hbar, Ht0, Ht1, Hr0, Hr1⟩, HO⟩
  iapply (wp_step c (wave_signal m ρ K c (owe1 c))) $$ [Hsig HO]
  · isplitr; · iexact HG
    isplitl [Hsig] <;> iassumption
  iintro ⟨-, HO⟩
  iapply (wp_step c (step_cast m ρ c)) $$ Hxx
  iintro ⟨Hx, Hxb⟩
  iapply (wp_step c (step_barrier m ρ K c (owe1 c) (above_owe1 c))) $$ [Hbar HO]
  · isplitr; · iexact HG
    isplitl [Hbar] <;> iassumption
  iintro ⟨⟨Hpl, Hv⟩, HO⟩
  ihave ⟨⟨Hq0, Hq1⟩, Hg0, Hg1⟩ := (Entails.of_eq (places_from c)) $$ Hpl
  ihave ⟨⟨Hb0, Hs0⟩, Hb1, Hs1⟩ := (Entails.of_eq (xb_blocks c (XB m ρ c))) $$ Hxb
  unfold owe1
  iapply (wp_step c (wave_send1 m ρ K c 0 (owe2 c + oweDma c 1 1 Finset.univ))) $$ [Hs0 Hq0 Ht0 HO]
  · isplitr; · iexact HG
    isplitr [HO]
    · rw [bigSep_sep', bigSep_sep']
      isplitl [Hs0]; · iexact Hs0
      isplitl [Hq0] <;> iassumption
    iexact HO
  iintro ⟨Hc0, HO⟩
  iapply (wp_step c (wave_send1 m ρ K c 1 (owe2 c))) $$ [Hs1 Hq1 Ht1 HO]
  · isplitr; · iexact HG
    isplitr [HO]
    · rw [bigSep_sep', bigSep_sep']
      isplitl [Hs1]; · iexact Hs1
      isplitl [Hq1] <;> iassumption
    iexact HO
  iintro ⟨Hc1, HO⟩
  ihave H := (step_own m ρ c) $$ [Hb0 Hb1 Hr0 Hr1]
  · isplitl [Hb0 Hb1]
    · isplitl [Hb0] <;> iassumption
    isplitl [Hr0] <;> iassumption
  iapply (wp_wand_r frame (wpE (defs₀ (F := F)) 𝒱₀ (c : Thread nD τ) none) Set.univ)
  isplitl [H]; · iexact H
  iintro %a Hown
  isplitr [HO]
  · unfold out1
    isplitl [Hx]; · iexact Hx
    isplitl [Hv]; · iexact Hv
    isplitl [Hown]; · iexact Hown
    isplitl [Hc0]; · iexact Hc0
    isplitl [Hc1]; · iexact Hc1
    isplitl [Hg0] <;> iassumption
  iexact HO

/-! ## The second phase -/

/-- What the second phase takes for one half, and what it leaves. -/
def in2 (c : Dev nD) (s : Fin 2) : sProp 𝕄 :=
  iprop((bigSep Finset.univ fun r => iprop(credOf c 1 s r ∗ posOf c 1 s r)) ∗ rsB c (c, s) (RS m ρ c)
    ∗ (∃ f, outB c (c, s) f) ∗ (∃ f, obB c s fullShare f)
    ∗ (bigSep Finset.univ fun r => iprop(∃ f, agB (peer c r) (c, s) f)) ∗ bigSep Finset.univ fun r => toks2 c s r)
def out2 (c : Dev nD) (s : Fin 2) : sProp 𝕄 :=
  iprop((rsB c (c, s) (RS m ρ c) ∗ bigSep Finset.univ fun r => rsB c (peer c r, s) (RS m ρ c))
    ∗ (bigSep Finset.univ fun r => valOf c 1 s r) ∗ outB c (c, s) (OUT m ρ c) ∗ bigSep Finset.univ fun r => credOf c 2 s r)

theorem phase2_wp (c : Dev nD) (s : Fin 2) (O : CellTallies nD τ sig Unit) (hO : Above 2 O) :
    iprop(Gam m ρ K ∗ in2 m ρ c s ∗ ow c (O + oweDma c 3 s Finset.univ))
      ⊢ WP (F := F) c (phase2 c s) (fun _ => iprop(out2 m ρ c s ∗ ow c O)) := by
  unfold phase2 in2
  iintro ⟨#HG, ⟨Hw, Hr, Hout, Hob, Hag, Ht⟩, HO⟩
  iapply (wp_step c (wave_recv1 m ρ K c s _ (hO.add (above_dma3 c s Finset.univ)))) $$ [Hw HO]
  · isplitr; · iexact HG
    isplitl [Hw] <;> iassumption
  iintro ⟨Hb, HO⟩
  ihave ⟨Hrs, Hv⟩ := (Entails.of_eq (bigSep_sep' Finset.univ (fun r => rsB c (peer c r, s) (RS m ρ c)) (fun r => valOf c 1 s r))) $$ Hb
  iapply (wp_step c (step_reduce m ρ c s)) $$ [Hr Hrs Hout Hob]
  · isplitl [Hr Hrs]
    · rw [ring_split c fun k => rsB c (k, s) (RS m ρ c)]
      isplitl [Hr] <;> iassumption
    isplitl [Hout] <;> iassumption
  iintro ⟨Hrs, Hout, Hob⟩
  ihave Hob := (Entails.of_eq (ob_deal c s (OB m ρ c))) $$ Hob
  ihave H := (wave_send2 m ρ K c s O) $$ [Hob Hag Ht HO]
  · isplitr; · iexact HG
    isplitr [HO]
    · rw [bigSep_sep', bigSep_sep']
      isplitl [Hob]; · iexact Hob
      isplitl [Hag] <;> iassumption
    iexact HO
  iapply (wp_wand_r frame (wpE (defs₀ (F := F)) 𝒱₀ (c : Thread nD τ) none) Set.univ)
  isplitl [H]; · iexact H
  iintro %a ⟨Hc, HO⟩
  isplitr [HO]
  · unfold out2
    isplitl [Hrs]; · rw [← ring_split c fun k => rsB c (k, s) (RS m ρ c)]; iexact Hrs
    isplitl [Hv]; · iexact Hv
    isplitl [Hout] <;> iassumption
  iexact HO

/-! ## The last phase -/

/-- What the last phase takes for one half, and what it leaves. -/
def in3 (c : Dev nD) (s : Fin 2) : sProp 𝕄 :=
  iprop((bigSep Finset.univ fun r => iprop((credOf c 3 s r ∗ posOf c 3 s r) ∗ ∃ f, outB c (peer c r, s) f))
    ∗ (bigSep Finset.univ fun r => iprop(credOf c 0 s r ∗ posOf c 0 s r)) ∗ bigSep Finset.univ fun r => iprop(credOf c 2 s r ∗ posOf c 2 s r))
def out3 (c : Dev nD) (s : Fin 2) : sProp 𝕄 :=
  iprop((bigSep Finset.univ fun r => iprop(agB c (peer c r, s) (AG m ρ) ∗ outB c (peer c r, s) (OUT m ρ c) ∗ valOf c 3 s r))
    ∗ (bigSep Finset.univ fun r => iprop(xbB c (peer c r, s) (XB m ρ c) ∗ valOf c 0 s r))
    ∗ bigSep Finset.univ fun r => iprop(obB c s (obShare r) (OB m ρ c) ∗ valOf c 2 s r))

theorem phase3_wp (c : Dev nD) :
    iprop(Gam m ρ K ∗ (in3 c 0 ∗ in3 c 1) ∗ ow c 0) ⊢ WP (F := F) c (phase3 c) (fun _ => iprop((out3 m ρ c 0 ∗ out3 m ρ c 1) ∗ ow c 0)) := by
  unfold phase3 in3
  iintro ⟨#HG, ⟨⟨Hg0, Ha0, Hb0⟩, Hg1, Ha1, Hb1⟩, HO⟩
  iapply (wp_step c (wave_gather m ρ K c 0)) $$ [Hg0 HO]
  · isplitr; · iexact HG
    isplitl [Hg0] <;> iassumption
  iintro ⟨Hg0, HO⟩
  iapply (wp_step c (wave_gather m ρ K c 1)) $$ [Hg1 HO]
  · isplitr; · iexact HG
    isplitl [Hg1] <;> iassumption
  iintro ⟨Hg1, HO⟩
  iapply (wp_step c (wave_sent1 m ρ K c 0)) $$ [Ha0 HO]
  · isplitr; · iexact HG
    isplitl [Ha0] <;> iassumption
  iintro ⟨Ha0, HO⟩
  iapply (wp_step c (wave_sent1 m ρ K c 1)) $$ [Ha1 HO]
  · isplitr; · iexact HG
    isplitl [Ha1] <;> iassumption
  iintro ⟨Ha1, HO⟩
  iapply (wp_step c (wave_sent2 m ρ K c 0)) $$ [Hb0 HO]
  · isplitr; · iexact HG
    isplitl [Hb0] <;> iassumption
  iintro ⟨Hb0, HO⟩
  ihave H := (wave_sent2 m ρ K c 1) $$ [Hb1 HO]
  · isplitr; · iexact HG
    isplitl [Hb1] <;> iassumption
  iapply (wp_wand_r frame (wpE (defs₀ (F := F)) 𝒱₀ (c : Thread nD τ) none) Set.univ)
  isplitl [H]; · iexact H
  iintro %a ⟨Hb1, HO⟩
  isplitr [HO]
  · unfold out3
    isplitl [Hg0 Ha0 Hb0]
    · isplitl [Hg0]; · iexact Hg0
      isplitl [Ha0] <;> iassumption
    isplitl [Hg1]; · iexact Hg1
    isplitl [Ha1] <;> iassumption
  iexact HO

/-! ## The whole body -/

/-- The records of one half that a device starts with: the duties of its sends, the credits of its
    receipts, the positions of all its semaphores. -/
def half (c : Dev nD) (s : Fin 2) : sProp 𝕄 :=
  iprop((bigSep Finset.univ fun r => toks1 c s r) ∗ (bigSep Finset.univ fun r => toks2 c s r)
    ∗ (bigSep Finset.univ fun r => iprop(credOf c 1 s r ∗ posOf c 1 s r)) ∗ (bigSep Finset.univ fun r => iprop(credOf c 3 s r ∗ posOf c 3 s r))
    ∗ (bigSep Finset.univ fun r => posOf c 0 s r) ∗ bigSep Finset.univ fun r => posOf c 2 s r)
/-- All the records a device starts with. -/
def lin (c : Dev nD) : sProp 𝕄 :=
  iprop((cred (tallyAt (kcell (c, none)) () 31) ∗ atPos ER (kcell (c, none)) 0 ∅ 0)
    ∗ (bigSep Finset.univ fun r : Fin 31 => dutyTok ER (kcell (peer c r, none)) 0 r.rev) ∗ half c 0 ∗ half c 1)
/-- A device's scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- The counters of one half's semaphores, all zero. -/
def vals (c : Dev nD) (s : Fin 2) : sProp 𝕄 :=
  iprop((bigSep Finset.univ fun r => valOf c 0 s r) ∗ (bigSep Finset.univ fun r => valOf c 1 s r)
    ∗ (bigSep Finset.univ fun r => valOf c 2 s r) ∗ bigSep Finset.univ fun r => valOf c 3 s r)
abbrev outPts (c : Dev nD) (f : Vec F S1024x512 .f32) : sProp 𝕄 := ((c : Thread nD τ).loc cc0_stg1_0) ↦{fullShare} f

/-- Blocks held at one content are each held at some content. -/
theorem some_each {I : Type} [DecidableEq I] {α : Type} {S : Finset I} (Φ : I → α → sProp 𝕄) (f : α) :
    bigSep S (fun i => Φ i f) ⊢ bigSep S fun i => iprop(∃ f, Φ i f) :=
  bigSep_mono fun i _ => show (Φ i f : sProp 𝕄) ⊢ iprop(∃ f, Φ i f) from by iintro H; iexists f; iexact H

/-- The own blocks that arrive in the signals' hands of the others. -/
theorem places_to (c : Dev nD) :
    iprop(((bigSep Finset.univ fun r => iprop(∃ f, rsB (F := F) c (peer c r, 0) f)) ∗ bigSep Finset.univ fun r => iprop(∃ f, rsB (F := F) c (peer c r, 1) f))
        ∗ (bigSep Finset.univ fun r => iprop(∃ f, agB (F := F) c (peer c r, 0) f)) ∗ bigSep Finset.univ fun r => iprop(∃ f, agB (F := F) c (peer c r, 1) f))
      = bigSep Finset.univ fun r => places (F := F) c (peer c r) := by
  unfold places; rw [bigSep_sep', bigSep_sep', bigSep_sep']

theorem body_wp (c : Dev nD) :
    iprop(Gam m ρ K ∗ (lin c ∗ scr c ∗ xPts m ρ c ∗ ∃ f, outPts c f) ∗ ow c (O₀ c))
      ⊢ WP (F := F) c bodyP (fun _ => iprop((semVal (kcell (c, none)) 0 ∗ (vals c 0 ∗ vals c 1) ∗ scr c ∗ xPts m ρ c ∗ outPts c (OUT m ρ c)) ∗ ow c 0)) := by
  unfold bodyP
  simp only [Prog.lift, Prog.bind_op, Prog.bind_ret, wp_deviceId]
  unfold lin half scr
  iintro ⟨#HG, ⟨⟨Hbar, Htb, ⟨Ht0, Hu0, Hr0, Hs0, Hp0, Hq0⟩, Ht1, Hu1, Hr1, Hs1, Hp1, Hq1⟩, ⟨⟨%f0, Hxb⟩, ⟨%f1, Hrs⟩, ⟨%f2, Hob⟩, ⟨%f3, Hag⟩⟩, Hx, ⟨%fo, Hout⟩⟩, HO⟩
  ihave ⟨⟨Hrc0, Hrr0⟩, Hrc1, Hrr1⟩ := (Entails.of_eq (rs_blocks c f1)) $$ Hrs
  ihave ⟨⟨Hac0, Har0⟩, Hac1, Har1⟩ := (Entails.of_eq (ag_blocks c f3)) $$ Hag
  ihave ⟨⟨Hoc0, Hor0⟩, Hoc1, Hor1⟩ := (Entails.of_eq (out_blocks c fo)) $$ Hout
  ihave ⟨Hob0, Hob1⟩ := (Entails.of_eq (ob_blocks c f2)) $$ Hob
  ihave Hrr0 := (some_each (fun r f => rsB c (peer c r, 0) f) f1) $$ Hrr0
  ihave Hrr1 := (some_each (fun r f => rsB c (peer c r, 1) f) f1) $$ Hrr1
  ihave Har0 := (some_each (fun r f => agB c (peer c r, 0) f) f3) $$ Har0
  ihave Har1 := (some_each (fun r f => agB c (peer c r, 1) f) f3) $$ Har1
  ihave Hor0 := (some_each (fun r f => outB c (peer c r, 0) f) fo) $$ Hor0
  ihave Hor1 := (some_each (fun r f => outB c (peer c r, 1) f) fo) $$ Hor1
  iapply (wp_step c (phase1_wp m ρ K c)) $$ [HO Htb Hrr0 Hrr1 Har0 Har1 Hx Hxb Hbar Ht0 Ht1 Hrc0 Hrc1]
  · isplitr; · iexact HG
    isplitr [HO]
    · unfold in1
      rw [bigSep_sep', ← places_to]
      isplitl [Htb Hrr0 Hrr1 Har0 Har1]
      · isplitl [Htb]; · iexact Htb
        isplitl [Hrr0 Hrr1]
        · isplitl [Hrr0] <;> iassumption
        isplitl [Har0] <;> iassumption
      isplitl [Hx Hxb]
      · isplitl [Hx]; · iexact Hx
        iexists f0; iexact Hxb
      isplitl [Hbar]; · iexact Hbar
      isplitl [Ht0]; · iexact Ht0
      isplitl [Ht1]; · iexact Ht1
      isplitl [Hrc0]
      · iexists f1; iexact Hrc0
      · iexists f1; iexact Hrc1
    iexact HO
  unfold out1 owe2
  iintro ⟨⟨Hx, Hbv, ⟨⟨Hxc0, Hxc1⟩, Hrc0, Hrc1⟩, Hcc0, Hcc1, Hga0, Hga1⟩, HO⟩
  iapply (wp_step c (phase2_wp m ρ K c 0 (oweDma c 3 1 Finset.univ) (above_dma3 c 1 Finset.univ))) $$ [HO Hr0 Hrc0 Hoc0 Hob0 Hga0 Hu0]
  · isplitr; · iexact HG
    isplitr [HO]
    · unfold in2
      isplitl [Hr0]; · iexact Hr0
      isplitl [Hrc0]; · iexact Hrc0
      isplitl [Hoc0]; · iexists fo; iexact Hoc0
      isplitl [Hob0]; · iexists f2; iexact Hob0
      isplitl [Hga0] <;> iassumption
    iexact HO
  unfold out2
  iintro ⟨⟨Hrs0, Hv0, Hoc0, Hcd0⟩, HO⟩
  rw [← zero_add (oweDma c 3 1 Finset.univ)]
  iapply (wp_step c (phase2_wp m ρ K c 1 0 (Above.zero 2))) $$ [HO Hr1 Hrc1 Hoc1 Hob1 Hga1 Hu1]
  · isplitr; · iexact HG
    isplitr [HO]
    · unfold in2
      isplitl [Hr1]; · iexact Hr1
      isplitl [Hrc1]; · iexact Hrc1
      isplitl [Hoc1]; · iexists fo; iexact Hoc1
      isplitl [Hob1]; · iexists f2; iexact Hob1
      isplitl [Hga1] <;> iassumption
    iexact HO
  unfold out2
  iintro ⟨⟨Hrs1, Hv1, Hoc1, Hcd1⟩, HO⟩
  ihave H := (phase3_wp m ρ K c) $$ [HO Hs0 Hor0 Hcc0 Hp0 Hcd0 Hq0 Hs1 Hor1 Hcc1 Hp1 Hcd1 Hq1]
  · isplitr; · iexact HG
    isplitr [HO]
    · unfold in3
      simp only [bigSep_sep']
      isplitl [Hs0 Hor0 Hcc0 Hp0 Hcd0 Hq0]
      · isplitl [Hs0 Hor0]
        · isplitl [Hs0] <;> iassumption
        isplitl [Hcc0 Hp0]
        · isplitl [Hcc0] <;> iassumption
        isplitl [Hcd0] <;> iassumption
      isplitl [Hs1 Hor1]
      · isplitl [Hs1] <;> iassumption
      isplitl [Hcc1 Hp1]
      · isplitl [Hcc1] <;> iassumption
      isplitl [Hcd1] <;> iassumption
    iexact HO
  iapply (wp_wand_r frame (wpE (defs₀ (F := F)) 𝒱₀ (c : Thread nD τ) none) Set.univ)
  isplitl [H]; · iexact H
  unfold out3
  simp only [bigSep_sep']
  iintro %a ⟨⟨⟨⟨Hga0, Hor0, Hy0⟩, ⟨Hxr0, Hw0⟩, Hob0, Hz0⟩, ⟨Hga1, Hor1, Hy1⟩, ⟨Hxr1, Hw1⟩, Hob1, Hz1⟩, HO⟩
  isplitr [HO]
  · isplitl [Hbv]; · iexact Hbv
    isplitl [Hv0 Hv1 Hy0 Hy1 Hw0 Hw1 Hz0 Hz1]
    · unfold vals
      isplitl [Hv0 Hy0 Hw0 Hz0]
      · isplitl [Hw0]; · iexact Hw0
        isplitl [Hv0]; · iexact Hv0
        isplitl [Hz0] <;> iassumption
      isplitl [Hw1]; · iexact Hw1
      isplitl [Hv1]; · iexact Hv1
      isplitl [Hz1] <;> iassumption
    isplitl [Hxc0 Hxc1 Hxr0 Hxr1 Hrs0 Hrs1 Hob0 Hob1 Hac0 Hac1 Hga0 Hga1]
    · isplitl [Hxc0 Hxc1 Hxr0 Hxr1]
      · iexists (XB m ρ c); rw [xb_blocks]
        isplitl [Hxc0 Hxr0]
        · isplitl [Hxc0] <;> iassumption
        isplitl [Hxc1] <;> iassumption
      isplitl [Hrs0 Hrs1]
      · iexists (RS m ρ c); rw [rs_blocks]
        isplitl [Hrs0] <;> iassumption
      isplitl [Hob0 Hob1]
      · iexists (OB m ρ c); rw [ob_blocks, ob_deal c 0, ob_deal c 1]
        isplitl [Hob0] <;> iassumption
      iapply (Ring.pointsTo_blocks_join_exists (ℓ := (c : Thread nD τ).loc cc0_scratch3) (q := fullShare) rowSet (fun b b' h => rowSet_disj b b' h) rowSet_cover f3)
      iapply (Entails.of_eq (blocks_split c fun p => iprop(∃ f, agB c p f)).symm)
      ihave Hga0 := (some_each (fun r f => agB c (peer c r, 0) f) (AG m ρ)) $$ Hga0
      ihave Hga1 := (some_each (fun r f => agB c (peer c r, 1) f) (AG m ρ)) $$ Hga1
      isplitl [Hac0 Hga0]
      · isplitl [Hac0]; · iexists f3; iexact Hac0
        iexact Hga0
      isplitl [Hac1]; · iexists f3; iexact Hac1
      iexact Hga1
    isplitl [Hx]; · iexact Hx
    unfold outPts; rw [out_blocks]
    isplitl [Hoc0 Hor0]
    · isplitl [Hoc0] <;> iassumption
    isplitl [Hoc1] <;> iassumption
  iexact HO

end Cert.AllReduce
-- ==== Proof.Deal.lean ====
/- The records of the semaphores, dealt to the devices at launch. -/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over a device's semaphores -/

theorem bigSep_option {α : Type} [Fintype α] [DecidableEq α] (Φ : Option α → sProp 𝕄) :
    bigSep Finset.univ Φ = iprop(Φ none ∗ bigSep Finset.univ fun a => Φ (some a)) := by
  have hu : (Finset.univ : Finset (Option α)) = insert none (Finset.univ.image some) := by
    ext k; cases k <;> simp
  rw [hu]
  refine (BI.bigSep_insert fun h => ?_).trans ?_
  · obtain ⟨r, -, hr⟩ := Finset.mem_image.mp h
    cases hr
  · rw [bigSep_image_of_injOn (fun a _ b _ h => Option.some.inj h)]; rfl
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- The transfers' semaphores kind by kind and half by half. -/
theorem dma_split (Φ : Fin 4 × Fin 31 × Fin 2 → sProp 𝕄) :
    bigSep Finset.univ Φ = iprop(((bigSep Finset.univ fun r => Φ (0, r, 0)) ∗ bigSep Finset.univ fun r => Φ (0, r, 1))
      ∗ ((bigSep Finset.univ fun r => Φ (1, r, 0)) ∗ bigSep Finset.univ fun r => Φ (1, r, 1))
      ∗ ((bigSep Finset.univ fun r => Φ (2, r, 0)) ∗ bigSep Finset.univ fun r => Φ (2, r, 1))
      ∗ (bigSep Finset.univ fun r => Φ (3, r, 0)) ∗ bigSep Finset.univ fun r => Φ (3, r, 1)) := by
  have h (A : Fin 4) : (bigSep Finset.univ fun p : Fin 31 × Fin 2 => Φ (A, p))
      = iprop((bigSep Finset.univ fun r => Φ (A, r, 0)) ∗ bigSep Finset.univ fun r => Φ (A, r, 1)) := by
    rw [bigSep_univ_prod, bigSep_univ_comm, bigSep_univ_two]
  rw [bigSep_univ_prod, bigSep_four, h, h, h, h]

/-! ## The kernel's own semaphores -/

/-- All the transfers' semaphores, the unused ones among them. -/
abbrev osem : Fin 4 × Fin 32 × Fin 2 → SemLoc sig := fun a => .dma (dsem a.1 a.2.1 a.2.2)
/-- The index a device does not use: of the sends index 0, of the receipts its own. -/
def base (c : Dev nD) (A : Fin 4) : Fin 32 := if A = 0 ∨ A = 2 then 0 else c
theorem semIx_base (c : Dev nD) (A : Fin 4) (r : Fin 31) : semIx c A r = peer (base c A) r := by
  unfold semIx base; split <;> rfl
/-- The counters of the semaphores a device does not use, all zero. -/
def idle (c : Dev nD) : sProp 𝕄 :=
  bigSep Finset.univ fun A : Fin 4 => bigSep Finset.univ fun s : Fin 2 => semVal ((c : Thread nD τ), osem (A, base c A, s)) 0

theorem own_split (c : Dev nD) :
    (Pipeline.ownSems0 (Ix := Unit) (Name := ℕ) (U := UU) (Lvl := ℕ) (Val := Elt F) (τ := τ) osem c : sProp 𝕄)
      = iprop(idle c ∗ bigSep Finset.univ fun a => semVal (kcell (c, some a)) 0) := by
  have h (A : Fin 4) : (bigSep Finset.univ fun p : Fin 32 × Fin 2 => (semVal ((c : Thread nD τ), osem (A, p)) 0 : sProp 𝕄))
      = iprop((bigSep Finset.univ fun s : Fin 2 => semVal ((c : Thread nD τ), osem (A, base c A, s)) 0)
          ∗ bigSep Finset.univ fun p : Fin 31 × Fin 2 => semVal (kcell (c, some (A, p))) 0) := by
    rw [bigSep_univ_prod, ring_split (base c A), bigSep_univ_prod]
    congr 1
    exact bigSep_congr fun r _ => bigSep_congr fun s _ => by
      show semVal ((c : Thread nD τ), SemLoc.dma (dsem A (peer (base c A) r) s)) 0 = semVal ((c : Thread nD τ), SemLoc.dma (dsem A (semIx c A r) s)) 0
      rw [semIx_base]
  unfold Pipeline.ownSems0 idle
  rw [bigSep_univ_prod, bigSep_congr (fun A _ => h A), bigSep_sep', ← bigSep_univ_prod (fun a : Fin 4 × Fin 31 × Fin 2 => (semVal (kcell (c, some a)) 0 : sProp 𝕄))]

theorem unscoped_eq (c : Dev nD) : (unscopedSems0 c : sProp 𝕄) = semVal (kcell (c, none)) 0 := by
  unfold unscopedSems0; rw [bigSep_eq_bigSepL_of_eq [SemLoc.reg barS] (by decide +kernel) (by decide)]; rfl

theorem stage_lt : ∀ (w : Fin cfg0.W) (s : Fin (cfg0.spec w).nbuf), ((cfg0.spec w).sem s).val < 2 := by decide

theorem osem_facts : Pipeline.OwnSemFacts cfg0.spec osem where
  isScoped k := by revert k; decide +kernel
  inj := by
    rintro ⟨A, i, s⟩ ⟨A', i', s'⟩ h
    obtain ⟨rfl, rfl, rfl⟩ := dsem_inj (SemLoc.dma.inj h)
    rfl
  disj := by
    intro k w s h
    have h := congrArg Fin.val (SemLoc.dma.inj h)
    rw [dsem_val] at h
    have hlt := stage_lt w s
    omega

/-! ## What the devices start with, dealt -/

def cellSet : Finset (GSem nD τ sig) := Finset.univ.map ⟨kcell, kcell_injective⟩
abbrev tokOf (x : (Dev nD × CK) × Fin 31) : GSem nD τ sig × ℕ × Fin 31 := (kcell x.1, 0, x.2)
theorem tokOf_injective : Function.Injective tokOf := by
  rintro ⟨ck, d⟩ ⟨ck', d'⟩ h
  exact Prod.ext (kcell_injective (congrArg Prod.fst h)) (congrArg (fun x : GSem nD τ sig × ℕ × Fin 31 => x.2.2) h)
def tokSet : Finset (GSem nD τ sig × ℕ × Fin 31) := Finset.univ.map ⟨tokOf, tokOf_injective⟩

def u₀ : UU :=
  (Rounds.initOf (Pipeline.cells cfgs cellOf_inj) (Pipeline.launchToks cfgs cellOf_inj), Rounds.initOf cellSet tokSet)

/-- The tokens of the duties of a device's own semaphores. -/
def toks (c : Dev nD) : sProp 𝕄 :=
  bigSep Finset.univ fun k : CK => bigSep Finset.univ fun d : Fin 31 => dutyTok ER (kcell (c, k)) 0 d
/-- The positions and the marks of a device's semaphores. -/
def marks (c : Dev nD) : sProp 𝕄 :=
  iprop((bigSep Finset.univ fun k : CK => atPos ER (kcell (c, k)) 0 ∅ 0) ∗ bigSep Finset.univ fun k : CK => reached ER (kcell (c, k)) 0)
/-- A device's share of the records at launch. -/
def G (c : Dev nD) : sProp 𝕄 :=
  iprop((bigSep Finset.univ fun k : CK => roundState ER (Rd m ρ) (kcell (c, k)) 0) ∗ marks c ∗ toks c)

theorem fund_records : BI.own (ER (Rounds.initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod, bigSep_univ_prod]; rfl
  iintro HX
  imod (Rounds.fund ER (Rd m ρ) cellSet tokSet) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks; simp only [bigSep_sep']
  isplitl [Hst']; · iexact Hst'
  isplitl [Hat' Hr']
  · isplitl [Hat'] <;> iassumption
  iexact Htok'

/-- One device's semaphores put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k)))) ∗ marks c ∗ toks c ∗ idle c) := by
  unfold G
  rw [own_split, unscoped_eq]
  iintro ⟨⟨Hid, Hos⟩, Hus, Hst, Hat, Htok⟩
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitl [Hos Hus]
    · rw [bigSep_option]
      isplitl [Hus] <;> iassumption
    iexact Hst
  imodintro
  isplitl [Hinv]; · iexact Hinv
  isplitl [Hat]; · iexact Hat
  isplitl [Htok] <;> iassumption

/-- The invariants and marks of all semaphores. -/
def records (K : Dev nD × CK → ℕ) : sProp 𝕄 :=
  bigSep Finset.univ fun ck : Dev nD × CK => iprop(cellInv ER (Rd m ρ) (K ck) (kcell ck) ∗ reached ER (kcell ck) 0)
instance records_persistent (K : Dev nD × CK → ℕ) : BI.Persistent (records m ρ K) := by unfold records; infer_instance

/-- One half's records but the credits; all a device's records but the credits. -/
def halfG (c : Dev nD) (s : Fin 2) : sProp 𝕄 :=
  iprop((bigSep Finset.univ fun r => toks1 c s r) ∗ (bigSep Finset.univ fun r => toks2 c s r)
    ∗ (bigSep Finset.univ fun r => posOf c 0 s r) ∗ (bigSep Finset.univ fun r => posOf c 1 s r)
    ∗ (bigSep Finset.univ fun r => posOf c 2 s r) ∗ bigSep Finset.univ fun r => posOf c 3 s r)
def linG (c : Dev nD) : sProp 𝕄 :=
  iprop(atPos ER (kcell (c, none)) 0 ∅ 0 ∗ (bigSep Finset.univ fun r : Fin 31 => dutyTok ER (kcell (peer c r, none)) 0 r.rev) ∗ halfG c 0 ∗ halfG c 1)
def G' (c : Dev nD) : sProp 𝕄 := iprop((∃ K, records m ρ K) ∗ linG c ∗ idle c)

/-- The token of a transfer's one duty. -/
abbrev tok (c : Dev nD) (A : Fin 4) (s : Fin 2) (r : Fin 31) : sProp 𝕄 := dutyTok ER (kcell (c, some (A, r, s))) 0 0

/-- A device's own tokens: its barrier's, and one for each transfer's semaphore. -/
theorem toks_split (c : Dev nD) :
    (toks (F := F) c) ⊢ iprop((bigSep Finset.univ fun d : Fin 31 => dutyTok ER (kcell (c, none)) 0 d)
      ∗ ((bigSep Finset.univ fun r => tok c 0 0 r) ∗ bigSep Finset.univ fun r => tok c 0 1 r)
      ∗ ((bigSep Finset.univ fun r => tok c 1 0 r) ∗ bigSep Finset.univ fun r => tok c 1 1 r)
      ∗ ((bigSep Finset.univ fun r => tok c 2 0 r) ∗ bigSep Finset.univ fun r => tok c 2 1 r)
      ∗ (bigSep Finset.univ fun r => tok c 3 0 r) ∗ bigSep Finset.univ fun r => tok c 3 1 r) := by
  unfold toks
  rw [bigSep_option, ← dma_split fun a => dutyTok ER (kcell (c, some a)) 0 0]
  exact sep_mono_right (bigSep_mono fun a _ => bigSep_one (Finset.mem_univ (0 : Fin 31)) _)

/-- Conjoined over all devices and distances, seen from either end. -/
theorem around (Φ : Dev nD → Fin 31 → sProp 𝕄) :
    (bigSep Finset.univ fun c : Dev nD => bigSep Finset.univ fun r : Fin 31 => Φ c r)
      = bigSep Finset.univ fun c : Dev nD => bigSep Finset.univ fun r : Fin 31 => Φ (peer c r) r.rev := by
  rw [← bigSep_univ_prod (fun p : Dev nD × Fin 31 => Φ p.1 p.2), ← bigSep_univ_prod (fun p : Dev nD × Fin 31 => Φ (peer p.1 p.2) p.2.rev),
    bigSep_univ_equiv turn]
  rfl

/-- The tokens dealt to the devices that pay the duties. -/
theorem toks_around : (bigSep Finset.univ fun c : Dev nD => toks (F := F) c)
    ⊢ bigSep Finset.univ fun c : Dev nD => iprop((bigSep Finset.univ fun r : Fin 31 => dutyTok ER (kcell (peer c r, none)) 0 r.rev)
        ∗ ((bigSep Finset.univ fun r => toks1 c 0 r) ∗ bigSep Finset.univ fun r => toks2 c 0 r)
        ∗ (bigSep Finset.univ fun r => toks1 c 1 r) ∗ bigSep Finset.univ fun r => toks2 c 1 r) := by
  refine (bigSep_mono fun c _ => toks_split c).trans ?_
  unfold toks1 toks2
  simp only [bigSep_sep']
  rw [around fun c d => dutyTok ER (kcell (c, none)) 0 d, around fun c r => tok c 1 0 r, around fun c r => tok c 1 1 r,
    around fun c r => tok c 3 0 r, around fun c r => tok c 3 1 r]
  show (_ : sProp 𝕄) ⊢ (_ : sProp 𝕄)
  iintro ⟨Hb, ⟨H00, H01⟩, ⟨H10, H11⟩, ⟨H20, H21⟩, H30, H31⟩
  isplitl [Hb]; · iexact Hb
  isplitl [H00 H10 H20 H30]
  · isplitl [H00 H10]
    · isplitl [H00] <;> iassumption
    isplitl [H20] <;> iassumption
  isplitl [H01 H11]
  · isplitl [H01] <;> iassumption
  isplitl [H21] <;> iassumption

theorem lin_intro (c : Dev nD) :
    iprop((bigSep Finset.univ fun k : CK => atPos ER (kcell (c, k)) 0 ∅ 0)
        ∗ (bigSep Finset.univ fun r : Fin 31 => dutyTok ER (kcell (peer c r, none)) 0 r.rev)
        ∗ ((bigSep Finset.univ fun r => toks1 c 0 r) ∗ bigSep Finset.univ fun r => toks2 c 0 r)
        ∗ (bigSep Finset.univ fun r => toks1 c 1 r) ∗ bigSep Finset.univ fun r => toks2 c 1 r)
      ⊢ linG (F := F) c := by
  rw [bigSep_option, dma_split]
  unfold linG halfG
  iintro ⟨⟨Hb, ⟨H00, H01⟩, ⟨H10, H11⟩, ⟨H20, H21⟩, H30, H31⟩, Ht, ⟨Ha0, Hb0⟩, Ha1, Hb1⟩
  isplitl [Hb]; · iexact Hb
  isplitl [Ht]; · iexact Ht
  isplitl [H00 H10 H20 H30 Ha0 Hb0]
  · isplitl [Ha0]; · iexact Ha0
    isplitl [Hb0]; · iexact Hb0
    isplitl [H00]; · iexact H00
    isplitl [H10]; · iexact H10
    isplitl [H20] <;> iassumption
  isplitl [Ha1]; · iexact Ha1
  isplitl [Hb1]; · iexact Hb1
  isplitl [H01]; · iexact H01
  isplitl [H11]; · iexact H11
  isplitl [H21] <;> iassumption

theorem lin_all :
    iprop((bigSep Finset.univ fun c : Dev nD => bigSep Finset.univ fun k : CK => atPos ER (kcell (c, k)) 0 ∅ 0)
        ∗ bigSep Finset.univ fun c : Dev nD => iprop((bigSep Finset.univ fun r : Fin 31 => dutyTok ER (kcell (peer c r, none)) 0 r.rev)
          ∗ ((bigSep Finset.univ fun r => toks1 c 0 r) ∗ bigSep Finset.univ fun r => toks2 c 0 r)
          ∗ (bigSep Finset.univ fun r => toks1 c 1 r) ∗ bigSep Finset.univ fun r => toks2 c 1 r))
      ⊢ bigSep Finset.univ fun c : Dev nD => linG (F := F) c := by
  rw [← bigSep_sep']
  exact bigSep_mono fun c _ => lin_intro c

theorem regroup :
    (bigSep Finset.univ fun c : Dev nD => iprop((bigSep Finset.univ fun k : CK => iprop(∃ κ : ℕ, cellInv ER (Rd m ρ) κ (kcell (c, k)))) ∗ marks c ∗ toks c ∗ idle c) : sProp 𝕄)
      ⊢ bigSep Finset.univ (G' m ρ) := by
  unfold marks
  rw [bigSep_sep', bigSep_sep', bigSep_sep', bigSep_sep', ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, ⟨Hat, #HR⟩, Htok, Hid⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) (Φ := fun c : Dev nD => iprop(linG c ∗ idle c)) fun c _ =>
    show iprop(records m ρ K ∗ linG c ∗ idle c) ⊢ G' m ρ c from by
      unfold G'; iintro ⟨#H, H'⟩
      isplitr
      · iexists K; iexact H
      iexact H')
  isplitr
  · unfold records; rw [bigSep_sep']
    isplitl; · iexact HI
    iexact HR
  · iapply (Entails.of_eq (bigSep_sep' Finset.univ (fun c : Dev nD => linG (F := F) c) (fun c => idle c)).symm)
    isplitl [Hat Htk]
    · iapply (lin_all (F := F))
      isplitl [Hat] <;> iassumption
    iexact Hid

/-- All devices' semaphores put under their invariants and all records dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- What all devices owe a semaphore for one kind and half of transfers: seen from the receiver. -/
theorem sum_dma (ck : Dev nD × CK) (A : Fin 4) (h : Fin 2) :
    ∑ d : Dev nD, oweDma d A h Finset.univ (kcell ck) () = ∑ p : Dev nD × Fin 31, if ck = (p.1, some (A, p.2, h)) then N else 0 := by
  have e (d : Dev nD) : oweDma d A h Finset.univ (kcell ck) () = ∑ r : Fin 31, if ck = (peer d r, some (A, r.rev, h)) then N else 0 := by
    unfold oweDma
    rw [Finset.sum_apply, Finsupp.finset_sum_apply]
    refine Finset.sum_congr rfl fun r _ => ?_
    rw [tallyAt_apply]
    refine if_congr ⟨fun h => kcell_injective h.1, fun h => ⟨congrArg kcell h, rfl⟩⟩ rfl rfl
  rw [Finset.sum_congr rfl fun d _ => e d, ← Fintype.sum_prod_type (f := fun p : Dev nD × Fin 31 => if ck = (peer p.1 p.2, some (A, p.2.rev, h)) then N else 0)]
  exact Equiv.sum_comp turn fun p : Dev nD × Fin 31 => if ck = (p.1, some (A, p.2, h)) then N else 0
theorem sum_bar (ck : Dev nD × CK) :
    ∑ d : Dev nD, oweBar d Finset.univ (kcell ck) () = ∑ p : Dev nD × Fin 31, if ck = (p.1, none) then 1 else 0 := by
  have e (d : Dev nD) : oweBar d Finset.univ (kcell ck) () = ∑ r : Fin 31, if ck = (peer d r, none) then 1 else 0 := by
    unfold oweBar
    rw [Finset.sum_apply, Finsupp.finset_sum_apply]
    refine Finset.sum_congr rfl fun r _ => ?_
    rw [tallyAt_apply]
    refine if_congr ⟨fun h => kcell_injective h.1, fun h => ⟨congrArg kcell h, rfl⟩⟩ rfl rfl
  rw [Finset.sum_congr rfl fun d _ => e d, ← Fintype.sum_prod_type (f := fun p : Dev nD × Fin 31 => if ck = (peer p.1 p.2, none) then 1 else 0)]
  exact Equiv.sum_comp turn fun p : Dev nD × Fin 31 => if ck = (p.1, none) then 1 else 0

theorem sum_dma_none (c : Dev nD) (A : Fin 4) (h : Fin 2) : ∑ d : Dev nD, oweDma d A h Finset.univ (kcell (c, none)) () = 0 := by
  rw [sum_dma]; exact Finset.sum_eq_zero fun p _ => if_neg fun h => by cases congrArg Prod.snd h
theorem sum_dma_ne (c : Dev nD) (A A' : Fin 4) (h h' : Fin 2) (r : Fin 31) (hne : (A, h) ≠ (A', h')) :
    ∑ d : Dev nD, oweDma d A h Finset.univ (kcell (c, some (A', r, h'))) () = 0 := by
  rw [sum_dma]; exact Finset.sum_eq_zero fun p _ => if_neg fun e => hne (by
    have e := Option.some.inj (congrArg Prod.snd e)
    exact Prod.ext (congrArg Prod.fst e).symm (congrArg (fun x : Fin 4 × Fin 31 × Fin 2 => x.2.2) e).symm)
theorem sum_dma_at (c : Dev nD) (A : Fin 4) (h : Fin 2) (r : Fin 31) : ∑ d : Dev nD, oweDma d A h Finset.univ (kcell (c, some (A, r, h))) () = N := by
  rw [sum_dma, Finset.sum_eq_single (c, r)]
  · exact if_pos rfl
  · intro p _ hp
    refine if_neg fun e => hp ?_
    have e' := Option.some.inj (congrArg Prod.snd e)
    exact Prod.ext (congrArg Prod.fst e).symm (congrArg (fun x : Fin 4 × Fin 31 × Fin 2 => x.2.1) e').symm
  · intro h; exact absurd (Finset.mem_univ _) h
theorem sum_bar_some (c : Dev nD) (a : Fin 4 × Fin 31 × Fin 2) : ∑ d : Dev nD, oweBar d Finset.univ (kcell (c, some a)) () = 0 := by
  rw [sum_bar]; exact Finset.sum_eq_zero fun p _ => if_neg fun h => by cases congrArg Prod.snd h
theorem sum_bar_none (c : Dev nD) : ∑ d : Dev nD, oweBar d Finset.univ (kcell (c, none)) () = 31 := by
  rw [sum_bar, Fintype.sum_prod_type, Finset.sum_eq_single c]
  · show ∑ r : Fin 31, (if (c, none) = ((c, none) : Dev nD × CK) then 1 else 0) = 31
    rw [if_pos rfl, Finset.sum_const, Finset.card_univ, Fintype.card_fin, smul_eq_mul]
  · intro p _ hp
    exact Finset.sum_eq_zero fun r _ => if_neg fun e => hp (congrArg Prod.fst e).symm
  · intro h; exact absurd (Finset.mem_univ _) h

theorem owed_sum (g : GSem nD τ sig) : ∑ d : Dev nD, O₀ d g ()
    = ((∑ d : Dev nD, oweDma d 3 1 Finset.univ g () + ∑ d : Dev nD, oweDma d 3 0 Finset.univ g ()) + ∑ d : Dev nD, oweDma d 1 1 Finset.univ g ()
        + ∑ d : Dev nD, oweDma d 1 0 Finset.univ g ()) + ∑ d : Dev nD, oweBar d Finset.univ g () := by
  unfold O₀ owe1 owe2
  simp only [Pi.add_apply, Finsupp.add_apply, Finset.sum_add_distrib]

/-- What all devices together owe a semaphore. -/
def due : CK → ℕ
  | none => 31
  | some (A, _, _) => if A = 1 ∨ A = 3 then N else 0
theorem owed_at (c : Dev nD) (k : CK) : ∑ d : Dev nD, O₀ d (kcell (c, k)) () = due k := by
  rw [owed_sum]
  rcases k with _ | ⟨A, r, s⟩
  · rw [sum_dma_none, sum_dma_none, sum_dma_none, sum_dma_none, sum_bar_none]; rfl
  · rw [sum_bar_some]
    have h (A' : Fin 4) (s' : Fin 2) : ∑ d : Dev nD, oweDma d A' s' Finset.univ (kcell (c, some (A, r, s))) () = if (A', s') = (A, s) then N else 0 := by
      split
      · rename_i e; obtain ⟨rfl, rfl⟩ := Prod.mk.inj e; exact sum_dma_at c _ _ r
      · rename_i e; exact sum_dma_ne c _ _ _ _ r e
    rw [h, h, h, h]
    unfold due
    fin_cases A <;> fin_cases s <;> simp

theorem launch_at (c : Dev nD) (k : CK) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, owed_at]

/-- The credits a device starts with. -/
theorem creds (c : Dev nD) :
    (Pipeline.launchCred O₀ c : sProp 𝕄) ⊢ iprop(cred (tallyAt (kcell (c, none)) () 31)
      ∗ ((bigSep Finset.univ fun r => credOf c 1 0 r) ∗ bigSep Finset.univ fun r => credOf c 1 1 r)
      ∗ (bigSep Finset.univ fun r => credOf c 3 0 r) ∗ bigSep Finset.univ fun r => credOf c 3 1 r) := by
  have h : (Pipeline.launchCred O₀ c : sProp 𝕄) ⊢ bigSep Finset.univ fun k : CK => cred (tallyAt (kcell (c, k)) () (due k)) := by
    have hi : Function.Injective (csem c) := fun k k' e => congrArg Prod.snd (kcell_injective (a₁ := (c, k)) (a₂ := (c, k')) (by show ((c : Thread nD τ), csem c k) = ((c : Thread nD τ), csem c k'); rw [e]))
    unfold Pipeline.launchCred
    refine (BI.bigSep_subset (Finset.subset_univ (Finset.univ.image (csem c)))).trans ?_
    rw [bigSep_image_of_injOn (fun a _ b _ e => hi e)]
    exact bigSep_mono fun k _ => Entails.of_eq (congrArg cred (launch_at c k))
  refine h.trans ?_
  rw [bigSep_option, dma_split]
  iintro ⟨Hb, -, H1, -, H3⟩
  isplitl [Hb]; · iexact Hb
  isplitl [H1]; · iexact H1
  iexact H3

end Cert.AllReduce
-- ==== Proof.Run.lean ====
/- The kernel's launch, and what every run of it ends in. -/
module

public import proofs.«01_k».proof.Proof.Deal
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

/-- What a device's body starts from. -/
def start (c : Dev nD) : sProp 𝕄 := iprop((∃ K, Gam m ρ K) ∗ lin c ∗ idle c)
def Φ₀ (c : Dev nD) : sProp 𝕄 := iprop(start m ρ c ∗ scr c)
/-- What it leaves: every counter at zero and the scratch buffers. -/
def Φ₁ (c : Dev nD) : sProp 𝕄 := iprop(semVal (kcell (c, none)) 0 ∗ (vals c 0 ∗ vals c 1) ∗ idle c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N0 t]; rfl
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's part of the launch, before and after. -/
def pre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def post (c : Dev nD) : sProp 𝕄 :=
  iprop(Φ₁ c ∗ (dats m ρ 0 c).owesAt () t0_0.succ ∗ stg c cc0_stg0_0 (xstg m ρ c) ∗ stg c cc0_stg1_0 (OUT m ρ c))

theorem sound (c : Dev nD) : pre m ρ c ⊢ WP (F := F) c bodyP (fun _ => post m ρ c) := by
  unfold pre Φ₀ start
  iintro ⟨⟨⟨⟨%K, #HG⟩, Hlin, Hid⟩, Hscr⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave H := (body_wp m ρ K c) $$ [Hlin Hscr Hx Hout HO]
  · isplitr; · iexact HG
    isplitr [HO]
    · isplitl [Hlin]; · iexact Hlin
      isplitl [Hscr]; · iexact Hscr
      isplitl [Hx]; · iexact Hx
      iexists g1; iexact Hout
    unfold ow; iexists W; iexact HO
  iapply (wp_wand_r frame (wpE (defs₀ (F := F)) 𝒱₀ (c : Thread nD τ) none) Set.univ)
  isplitl [H]; · iexact H
  unfold ow
  iintro %a ⟨⟨Hb, Hv, Hscr, Hx, Hout⟩, ⟨%W', HO⟩⟩
  unfold post Φ₁ Dat.owesAt Pipeline.owesWithin
  rw [show (dats m ρ 0 c).owed t0_0.succ = 0 from rfl]
  isplitl [Hb Hv Hid Hscr]
  · isplitl [Hb]; · iexact Hb
    isplitl [Hv]; · iexact Hv
    isplitl [Hid] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The body meets its part of the launch. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show pre m ρ c ⊢ WP (F := F) c
    (cc0_body (F := F) xM (Memref.isWhole_whole _) outM (Memref.isWhole_whole _) xbM (Memref.isWhole_whole _)
      rsM (Memref.isWhole_whole _) obM (Memref.isWhole_whole _) agM (Memref.isWhole_whole _)
      cc0_scratch4 cc0_scratch5 cc0_scratch6 cc0_scratch7) (fun _ => post m ρ c)
  rw [body_eq]
  exact sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linG halfG
  iintro ⟨-, Hlev, Hcr, -, ⟨%K, HR⟩, ⟨Hb, Ht, ⟨Ht0, Hu0, H00, H10, H20, H30⟩, Ht1, Hu1, H01, H11, H21, H31⟩, Hid⟩
  ihave ⟨Hcb, ⟨Hc10, Hc11⟩, Hc30, Hc31⟩ := (creds (F := F) c) $$ Hcr
  imodintro
  unfold start lin half
  simp only [bigSep_sep']
  isplitr []
  · isplitl [Hlev HR]
    · iexists K; unfold Gam records
      isplitl [Hlev] <;> iassumption
    isplitr [Hid]
    · isplitl [Hcb Hb]
      · isplitl [Hcb] <;> iassumption
      isplitl [Ht]; · iexact Ht
      isplitl [Ht0 Hu0 H00 H10 H20 H30 Hc10 Hc30]
      · isplitl [Ht0]; · iexact Ht0
        isplitl [Hu0]; · iexact Hu0
        isplitl [Hc10 H10]
        · isplitl [Hc10] <;> iassumption
        isplitl [Hc30 H30]
        · isplitl [Hc30] <;> iassumption
        isplitl [H00] <;> iassumption
      isplitl [Ht1]; · iexact Ht1
      isplitl [Hu1]; · iexact Hu1
      isplitl [Hc11 H11]
      · isplitl [Hc11] <;> iassumption
      isplitl [Hc31 H31]
      · isplitl [Hc31] <;> iassumption
      isplitl [H01] <;> iassumption
    iexact Hid
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_split, unscoped_eq, dma_split]
  unfold Φ₁ vals scr
  iintro ⟨Hb, ⟨⟨H00, H10, H20, H30⟩, H01, H11, H21, H31⟩, Hid, Hr⟩
  isplitl [Hb]; · iexact Hb
  isplitr [Hr]
  · isplitl [Hid]; · iexact Hid
    isplitl [H00 H01]
    · isplitl [H00] <;> iassumption
    isplitl [H10 H11]
    · isplitl [H10] <;> iassumption
    isplitl [H20 H21]
    · isplitl [H20] <;> iassumption
    isplitl [H30] <;> iassumption
  iexact Hr

/-- A staging buffer's semaphore is none of the devices' and may be waited on at the start and at the end. -/
theorem wait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  refine mayWait_above (F := F) c (.dma q) 0 O ?_ ?_
  · unfold lv
    rw [cellIx_none]
    rintro ⟨d, _ | ⟨A, r, s⟩⟩ h
    · cases congrArg Prod.snd h
    · have h := congrArg Fin.val (SemLoc.dma.inj (congrArg Prod.snd h))
      rw [dsem_val] at h
      omega
  · rcases hO with rfl | rfl
    · exact above_O₀ c
    · exact Above.zero 0

theorem waits (c : Dev nD) : (levAts L lv : sProp 𝕄) ⊢ Pipeline.cellsWaits cfgs (dats m ρ) () 0 c :=
  Pipeline.cellsWaits_intro cfgs (dats m ρ) () 0 c fun w s t =>
    wait_stage c _ (stage_lt w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the 32 devices, for any float values and from any memory with all counters at zero, every
    weakly fair execution ends; at the end every array holds the contents computed above and every
    counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_records m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce
-- ==== Proof.Values.lean ====
/- What the arrays hold at the end, and that over the extended reals it is the reference's sum. -/
module

public import proofs.«01_k».proof.Proof.Run
public import proofs.«01_k».proof.Proof.Gen.KernelIdeal.Points
public import proofs.«01_k».proof.Proof.Gen.ReferenceIdeal.Run
public import Idealize.ShloMosaic.Lib.Pointwise.Reduce
public import Idealize.ShloMosaic.Lib.IdealHost
public import Idealize.ShloMosaic.Lib.Pipeline.Value

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays at the end -/

/-- The argument's window is the whole array: what a device stages is its block of the argument. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The argument's array ends as it began. -/
theorem end_arg (c : Dev nD) : finalA m ρ c (0 : Fin 2) = m ((c : Thread nD τ).loc main_arg0) :=
  (dats (F := F) m ρ 0 c).arrAt_in (0 : Fin 2) rfl _

/-- The result's array ends at what the body left in its staging buffer. -/
theorem end_out (c : Dev nD) : finalA m ρ c (1 : Fin 2) = OUT m ρ c := by
  have h : (win0_1.blk (0 : Fin 1)).view.read (Elt F) (finalA m ρ c (1 : Fin 2)) = OUT m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (Memref.read_access_unit_zero (Elt F) main_v1 (off := fun a => (win0_1.index (0 : Fin 1)) a * main_v1.ty.shape.size a)
    (funext fun a => by fin_cases a <;> decide) (fun a => by fin_cases a <;> decide) _).symm.trans h

/-- The run of the kernel: every device's result array ends holding `OUT`, its argument is unchanged and every
    counter is at zero. -/
theorem run_holds : θ_run defs (onTc (τ := τ) (main (F := F))) ⟨m, fun _ => 0, ρ⟩ (fun r =>
    (∀ c : Dev nD, r.2.mem ((c.tc : Thread nD τ).loc main_v1) = OUT m ρ c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (end_out m ρ c), (h.1 c (0 : Fin 2)).trans (end_arg m ρ c)⟩, h.2⟩)
    (run_main m ρ)

/-! ## The result over the extended reals -/

section Ideal
variable (m : (ℓ : Loc nD τ sig) → Buf (Elt Ideal) ℓ)

/-- Rounding into the wire's format changes nothing over the extended reals. -/
theorem XB_ideal (c : Dev nD) (i : S1024x512.Idx) : XB (F := Ideal) m ρ c i = xstg (F := Ideal) m ρ c i := by
  unfold XB k0_pay1
  rw [shapeCast_self, truncf_apply, shapeCast_self]

/-- A reduced half chunk is, entry by entry, the sum of all devices' arguments. -/
theorem RED_ideal (c : Dev nD) (s : Fin 2) (j : S16x512.Idx) (i : S1024x512.Idx)
    (h0 : (i 0).val = 32 * c.val + 16 * s.val + (j 0).val) (h1 : (i 1).val = (j 1).val) :
    RED (F := Ideal) m ρ c s j = ∑ e : Fin 32, xstg (F := Ideal) m ρ e i := by
  unfold RED k0_pay3
  refine (multiReduction_add_apply (F := Ideal) _ _ _ (.inl rfl) rfl j).trans ?_
  rw [Ideal.reduceAdd_def]
  refine (Ideal.reduceAdd_r3_a0 _ _ j).trans (Finset.sum_congr rfl fun e _ => ?_)
  rw [extf_apply]
  refine (XB_ideal ρ m e _).trans (congrArg _ (funext fun a => Fin.ext ?_))
  match a with
  | ⟨0, _⟩ => show 32 * c.val + (16 * s.val + (j 0).val) = (i 0).val; omega
  | ⟨1, _⟩ => exact h1.symm

/-- Every device's result is, entry by entry, the sum of all devices' arguments. -/
theorem OUT_ideal (c : Dev nD) (i : S1024x512.Idx) :
    OUT (F := Ideal) m ρ c i = ∑ e : Fin 32, xstg (F := Ideal) m ρ e i := by
  have hr : (i 0).val < 1024 := (i 0).isLt
  have h : ∀ d, rowDev (i 0) = d → RED (F := Ideal) m ρ d (rowHalf (i 0)) (Idealize.ShloMosaic.ix2 (n0 := 16) (n1 := 512) (rowIn (i 0)) (i 1))
      = ∑ e : Fin 32, xstg (F := Ideal) m ρ e i := by
    rintro d rfl
    refine RED_ideal ρ m _ _ _ i ?_ rfl
    show (i 0).val = 32 * ((i 0).val / 32) + 16 * ((i 0).val / 16 % 2) + (i 0).val % 16
    omega
  unfold OUT
  split
  · exact h c ‹_›
  · unfold k0_pay7 OBh k0_pay4
    rw [extf_apply, shapeCast_self, truncf_apply]
    exact h _ rfl

/-- The reference's term at an index: the sum over the 32 blocks of rows. -/
theorem ref_ideal (x : Vec Ideal ⟨2, ![32768, 512]⟩ .f32) (i : S1024x512.Idx) :
    Host.reduceAdd (F := Ideal) (φ := .f32) (shapeCast Cert.ReferenceIdeal.S32x1024x512 x Cert.ReferenceIdeal.Gen.shapeCasts_S32768x512_S32x1024x512)
        (constant (F := Ideal) Cert.ReferenceIdeal.S_ .f32 0x00000000#32) Cert.ReferenceIdeal.Gen.reducesTo_S32x1024x512_S1024x512_d0
        Cert.ReferenceIdeal.Gen.h_S_ i
      = ∑ e : Fin 32, Layout.block ⟨2, ![1024, 512]⟩ ⟨2, ![32768, 512]⟩ 0 32 e x (by decide) i := by
  rw [hostReduceAdd_apply]
  refine (Ideal.hostReduceAdd_r3_a0 _ _ _ i).trans ?_
  rw [constant_apply, Ideal.ofBits_zero_f32, zero_add]
  refine Finset.sum_congr rfl fun e _ => ?_
  rw [Layout.block_apply]
  refine shapeCast_apply _ _ _ _ ?_
  rw [Shape.rowMajor_val_two, Shape.rowMajor_val_three]
  show (e.val * 1024 + (i 0).val) * 512 + (i 1).val = (e.val * 1024 + (i 0).val) * 512 + (i 1).val
  rfl

end Ideal

end Cert.AllReduce
-- ==== Proof.lean ====
/- The claims: both readings of the kernel and the reference run, keep their argument and end with every
   semaphore at zero; and over the extended reals every device's result of the kernel is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Values
public import Idealize.ShloMosaic.Lib.Quiescent

@[expose] public section

noncomputable section

namespace Cert.Proof

open Idealize.ShloMosaic Idealize.SL.Sem

set_option maxRecDepth 100000 in
/-- The kernel and its ideal reading are the same program: no operation was rewritten. -/
theorem same (m : (ℓ : Loc Cert.Kernel.nD Cert.Kernel.τ Cert.Kernel.sig) → Buf (Elt Bits) ℓ) (g : Dev Cert.Kernel.nD → PrngReg) :
    (θ_run (Cert.Kernel.defs (F := Bits)) (onTc (τ := Cert.Kernel.τ) (Cert.Kernel.main (F := Bits))) ⟨m, fun _ => 0, g⟩)
      = (θ_run (Cert.KernelIdeal.defs (F := Bits)) (onTc (τ := Cert.KernelIdeal.τ) (Cert.KernelIdeal.main (F := Bits))) ⟨m, fun _ => 0, g⟩) := by
  chain_rfl

/-- The kernel on bits runs, keeps its argument and ends with every semaphore at zero. -/
theorem frame_kernel : Cert.quiescent_Kernel := by
  intro m g _
  rw [same m g]
  exact (θ_run (Cert.KernelIdeal.defs (F := Bits)) _ _).mono (fun _ h => ⟨fun c => (h.1 c).2, h.2⟩)
    (Cert.AllReduce.run_holds (F := Bits) m g)

/-- So does its ideal reading. -/
theorem frame_ideal : Cert.quiescent_KernelIdeal := by
  intro m g _
  exact (θ_run (Cert.KernelIdeal.defs (F := Ideal)) _ _).mono (fun _ h => ⟨fun c => (h.1 c).2, h.2⟩)
    (Cert.AllReduce.run_holds (F := Ideal) m g)

/-- So does the reference. -/
theorem frame_reference : Cert.quiescent_ReferenceIdeal := by
  intro m g _
  exact (θ_run (Cert.ReferenceIdeal.defs (F := Ideal)) _ _).mono
    (fun r h => ⟨fun c => (h c).2, sem_eq_zero_of_no_sems (by decide) r.2⟩)
    (Cert.ReferenceIdeal.Value.run (F := Ideal) m g)

/-- Over the extended reals every device's result is the reference's. -/
theorem algebraic : Cert.algebraic_KernelIdeal_ReferenceIdeal := by
  intro m g m' g' _ hx
  refine ⟨_, ?_, (θ_run (Cert.ReferenceIdeal.defs (F := Ideal)) _ _).mono (fun _ h => h 0)
    (Cert.ReferenceIdeal.Value.run (F := Ideal) m' g')⟩
  refine (θ_run (Cert.KernelIdeal.defs (F := Ideal)) _ _).mono (fun _ h c => ⟨((h.1 c).1).trans (funext fun i => ?_), (h.1 c).2⟩)
    (Cert.AllReduce.run_holds (F := Ideal) m g)
  refine (Cert.AllReduce.OUT_ideal g m c i).trans (Eq.trans ?_ (Cert.AllReduce.ref_ideal _ i).symm)
  refine Finset.sum_congr rfl fun e _ => congrFun ?_ i
  exact (Cert.AllReduce.xstg_eq m g e).trans (hx e)

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
